-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_generic [hPre_generic : Cert.Pre_generic.Facts] (m : (ℓ : Loc Cert.KernelIdeal.nD Cert.KernelIdeal.τ Cert.KernelIdeal.sig) → Buf (Elt Ideal) ℓ) : Prop :=
  ∀ c : Dev Cert.KernelIdeal.nD,
    (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_generic [hPre_generic : Cert.Pre_generic.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_generic [hKernelIdeal : Cert.KernelIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_generic m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_generic [hReferenceIdeal : Cert.ReferenceIdeal.Facts] [hPre_generic : Cert.Pre_generic.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_generic m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_generic [hKernelIdeal : Cert.KernelIdeal.Facts] [hReferenceIdeal : Cert.ReferenceIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_generic m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_generic : Cert.Pre_generic.Facts),
    quiescent_Kernel (hKernel := hKernel)
    ∧ quiescent_KernelIdeal (hKernelIdeal := hKernelIdeal)
    ∧ quiescent_KernelIdeal_pre_generic (hKernelIdeal := hKernelIdeal) (hPre_generic := hPre_generic)
    ∧ quiescent_ReferenceIdeal (hReferenceIdeal := hReferenceIdeal)
    ∧ quiescent_ReferenceIdeal_pre_generic (hReferenceIdeal := hReferenceIdeal) (hPre_generic := hPre_generic)
    ∧ preserves_Kernel_KernelIdeal
    ∧ algebraic_KernelIdeal_ReferenceIdeal_pre_generic (hKernelIdeal := hKernelIdeal) (hReferenceIdeal := hReferenceIdeal) (hPre_generic := hPre_generic)
-- ==== Pre_generic.lean ====
abbrev S32768 : Shape := ⟨1, ![32768]⟩
abbrev S32768x3 : Shape := ⟨2, ![32768, 3]⟩
abbrev S32768x256 : Shape := ⟨2, ![32768, 256]⟩
abbrev S4 : Shape := ⟨1, ![4]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S8192x17 : Shape := ⟨2, ![8192, 17]⟩
abbrev S8192x16 : Shape := ⟨2, ![8192, 16]⟩

class Facts : Prop where
  slices_S32768x3_S8192x3_0_0 : S32768x3.Slices ![0, 0] S8192x3
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  sliceFits_S8192x8192_S8192x17 : S8192x8192.Slices (fun _ => 0) S8192x17
  slices_S8192x17_S8192x16_0_0 : S8192x17.Slices ![0, 0] S8192x16
  slices_S8192x17_S8192x16_0_1 : S8192x17.Slices ![0, 1] S8192x16
  slices_S32768_S8192_0 : S32768.Slices ![0] S8192
  bcast_S_S8192 : S_.BroadcastsInDim S8192 (![] : Fin 0 → Fin S8192.rank)
  slices_S32768x3_S8192x3_8192_0 : S32768x3.Slices ![8192, 0] S8192x3
  slices_S32768_S8192_8192 : S32768.Slices ![8192] S8192
  slices_S32768x3_S8192x3_16384_0 : S32768x3.Slices ![16384, 0] S8192x3
  slices_S32768_S8192_16384 : S32768.Slices ![16384] S8192
  slices_S32768x3_S8192x3_24576_0 : S32768x3.Slices ![24576, 0] S8192x3
  slices_S32768_S8192_24576 : S32768.Slices ![24576] S8192
  bcast_S_S32768 : S_.BroadcastsInDim S32768 (![] : Fin 0 → Fin S32768.rank)
  dot_S8192x3_S3x8192_S8192x8192_1_0_0_1_n_n_wf : DotDims.WF S8192x3 S3x8192 S8192x8192 [1] [0] [0] [1] [] []

variable [Facts]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf
def fn_part4 {F : FTy → Type} [FloatOps F] (main_arg0 : FVec F S32768 .f32) (main_arg3 : IVec S32768 32) (main_v16 : IVec S8192x16 1) (main_v19 : IVec S8192 1) (main_v36 : IVec S8192x16 1) (main_v39 : IVec S8192 1) (main_v56 : IVec S8192x16 1) (main_v59 : IVec S8192 1) (main_v76 : IVec S8192x16 1) : IVec S8192x16 1 × IVec S8192 1 × IVec S8192x16 1 × IVec S8192 1 × IVec S8192x16 1 × IVec S8192 1 × IVec S8192x16 1 × IVec S8192 1 × IVec S32768 1 :=
  let main_v77 : IVec S8192 32 := (extractStridedSlice S8192 ![24576] · slices_S32768_S8192_24576) main_arg3
  let main_c_15 : IVec S_ 32 := constantI S_ 32 3#32
  let main_v78 : IVec S8192 32 := broadcastInDim S8192 ![] bcast_S_S8192 main_c_15
  let main_v79 : IVec S8192 1 := cmpi .eq main_v77 main_v78
  let main_v80 : FVec F S32768 .f32 := Host.absf main_arg0
  let main_cst_16 : FVec F S_ .f32 := constant S_ .f32 0x7F800000#32
  let main_v81 : FVec F S32768 .f32 := broadcastInDim S32768 ![] bcast_S_S32768 main_cst_16
  let main_v82 : IVec S32768 1 := cmpf .olt main_v80 main_v81
  (main_v16, main_v19, main_v36, main_v39, main_v56, main_v59, main_v76, main_v79, main_v82)

def fn_part3 {F : FTy → Type} [FloatOps F] (main_arg0 : FVec F S32768 .f32) (main_arg1 : FVec F S32768x3 .f32) (main_arg3 : IVec S32768 32) (main_v16 : IVec S8192x16 1) (main_v19 : IVec S8192 1) (main_v36 : IVec S8192x16 1) (main_v39 : IVec S8192 1) (main_v56 : IVec S8192x16 1) (main_v57 : IVec S8192 32) : IVec S8192x16 1 × IVec S8192 1 × IVec S8192x16 1 × IVec S8192 1 × IVec S8192x16 1 × IVec S8192 1 × IVec S8192x16 1 × IVec S8192 1 × IVec S32768 1 :=
  let main_c_10 : IVec S_ 32 := constantI S_ 32 2#32
  let main_v58 : IVec S8192 32 := broadcastInDim S8192 ![] bcast_S_S8192 main_c_10
  let main_v59 : IVec S8192 1 := cmpi .eq main_v57 main_v58
  let main_v60 : FVec F S8192x3 .f32 := (extractStridedSlice S8192x3 ![24576, 0] · slices_S32768x3_S8192x3_24576_0) main_arg1
  let main_v61 : FVec F S8192x3 .f32 := mulf main_v60 main_v60
  let main_cst_11 : FVec F S_ .f32 := constant S_ .f32 0x00000000#32
  let main_v62 : FVec F S8192 .f32 := (fun x v => Host.reduceAdd x v reducesTo_S8192x3_S8192_d1 h_S_) main_v61 main_cst_11
  let main_v63 : FVec F S8192x1 .f32 := broadcastInDim S8192x1 ![0] bcast_S8192_S8192x1_0 main_v62
  let main_v64 : FVec F S1x8192 .f32 := broadcastInDim S1x8192 ![1] bcast_S8192_S1x8192_1 main_v62
  let main_v65 : FVec F S8192x8192 .f32 := broadcastInDim S8192x8192 ![0, 1] bcast_S8192x1_S8192x8192_0_1 main_v63
  let main_v66 : FVec F S8192x8192 .f32 := broadcastInDim S8192x8192 ![0, 1] bcast_S1x8192_S8192x8192_0_1 main_v64
  let main_v67 : FVec F S8192x8192 .f32 := addf main_v65 main_v66
  let main_v68 : FVec F S3x8192 .f32 := (transpose S3x8192 [1, 0] · transposes_S8192x3_S3x8192_1_0) main_v60
  let main_v69 : FVec F S8192x8192 .f32 := (fun l r => Host.dotGeneral dot_S8192x3_S3x8192_S8192x8192_1_0_0_1_n_n none l r) main_v60 main_v68
  let main_cst_12 : FVec F S_ .f32 := constant S_ .f32 0x40000000#32
  let main_v70 : FVec F S8192x8192 .f32 := broadcastInDim S8192x8192 ![] bcast_S_S8192x8192 main_cst_12
  let main_v71 : FVec F S8192x8192 .f32 := mulf main_v70 main_v69
  let main_v72 : FVec F S8192x8192 .f32 := subf main_v67 main_v71
  let main_v73 : FVec F S8192x8192 .f32 := Host.negf main_v72
  let main_values_13 : FVec F S8192x17 .f32 := (fun x => (Host.topK S8192x17 1 (FloatOps.cmpfTotal .gt) x sliceFits_S8192x8192_S8192x17).1) main_v73
  let main_indices_14 : IVec S8192x17 32 := (fun x => (Host.topK S8192x17 1 (FloatOps.cmpfTotal .gt) x sliceFits_S8192x8192_S8192x17).2) main_v73
  let main_v74 : FVec F S8192x16 .f32 := (extractStridedSlice S8192x16 ![0, 0] · slices_S8192x17_S8192x16_0_0) main_values_13
  let main_v75 : FVec F S8192x16 .f32 := (extractStridedSlice S8192x16 ![0, 1] · slices_S8192x17_S8192x16_0_1) main_values_13
  let main_v76 : IVec S8192x16 1 := cmpf .ogt main_v74 main_v75
  fn_part4 (F := F) main_arg0 main_arg3 main_v16 main_v19 main_v36 main_v39 main_v56 main_v59 main_v76

def fn_part2 {F : FTy → Type} [FloatOps F] (main_arg0 : FVec F S32768 .f32) (main_arg1 : FVec F S32768x3 .f32) (main_arg3 : IVec S32768 32) (main_v16 : IVec S8192x16 1) (main_v19 : IVec S8192 1) (main_v36 : IVec S8192x16 1) (main_v37 : IVec S8192 32) (main_c_5 : IVec S_ 32) : IVec S8192x16 1 × IVec S8192 1 × IVec S8192x16 1 × IVec S8192 1 × IVec S8192x16 1 × IVec S8192 1 × IVec S8192x16 1 × IVec S8192 1 × IVec S32768 1 :=
  let main_v38 : IVec S8192 32 := broadcastInDim S8192 ![] bcast_S_S8192 main_c_5
  let main_v39 : IVec S8192 1 := cmpi .eq main_v37 main_v38
  let main_v40 : FVec F S8192x3 .f32 := (extractStridedSlice S8192x3 ![16384, 0] · slices_S32768x3_S8192x3_16384_0) main_arg1
  let main_v41 : FVec F S8192x3 .f32 := mulf main_v40 main_v40
  let main_cst_6 : FVec F S_ .f32 := constant S_ .f32 0x00000000#32
  let main_v42 : FVec F S8192 .f32 := (fun x v => Host.reduceAdd x v reducesTo_S8192x3_S8192_d1 h_S_) main_v41 main_cst_6
  let main_v43 : FVec F S8192x1 .f32 := broadcastInDim S8192x1 ![0] bcast_S8192_S8192x1_0 main_v42
  let main_v44 : FVec F S1x8192 .f32 := broadcastInDim S1x8192 ![1] bcast_S8192_S1x8192_1 main_v42
  let main_v45 : FVec F S8192x8192 .f32 := broadcastInDim S8192x8192 ![0, 1] bcast_S8192x1_S8192x8192_0_1 main_v43
  let main_v46 : FVec F S8192x8192 .f32 := broadcastInDim S8192x8192 ![0, 1] bcast_S1x8192_S8192x8192_0_1 main_v44
  let main_v47 : FVec F S8192x8192 .f32 := addf main_v45 main_v46
  let main_v48 : FVec F S3x8192 .f32 := (transpose S3x8192 [1, 0] · transposes_S8192x3_S3x8192_1_0) main_v40
  let main_v49 : FVec F S8192x8192 .f32 := (fun l r => Host.dotGeneral dot_S8192x3_S3x8192_S8192x8192_1_0_0_1_n_n none l r) main_v40 main_v48
  let main_cst_7 : FVec F S_ .f32 := constant S_ .f32 0x40000000#32
  let main_v50 : FVec F S8192x8192 .f32 := broadcastInDim S8192x8192 ![] bcast_S_S8192x8192 main_cst_7
  let main_v51 : FVec F S8192x8192 .f32 := mulf main_v50 main_v49
  let main_v52 : FVec F S8192x8192 .f32 := subf main_v47 main_v51
  let main_v53 : FVec F S8192x8192 .f32 := Host.negf main_v52
  let main_values_8 : FVec F S8192x17 .f32 := (fun x => (Host.topK S8192x17 1 (FloatOps.cmpfTotal .gt) x sliceFits_S8192x8192_S8192x17).1) main_v53
  let main_indices_9 : IVec S8192x17 32 := (fun x => (Host.topK S8192x17 1 (FloatOps.cmpfTotal .gt) x sliceFits_S8192x8192_S8192x17).2) main_v53
  let main_v54 : FVec F S8192x16 .f32 := (extractStridedSlice S8192x16 ![0, 0] · slices_S8192x17_S8192x16_0_0) main_values_8
  let main_v55 : FVec F S8192x16 .f32 := (extractStridedSlice S8192x16 ![0, 1] · slices_S8192x17_S8192x16_0_1) main_values_8
  let main_v56 : IVec S8192x16 1 := cmpf .ogt main_v54 main_v55
  let main_v57 : IVec S8192 32 := (extractStridedSlice S8192 ![16384] · slices_S32768_S8192_16384) main_arg3
  fn_part3 (F := F) main_arg0 main_arg1 main_arg3 main_v16 main_v19 main_v36 main_v39 main_v56 main_v57

def fn_part1 {F : FTy → Type} [FloatOps F] (main_arg0 : FVec F S32768 .f32) (main_arg1 : FVec F S32768x3 .f32) (main_arg3 : IVec S32768 32) (main_v16 : IVec S8192x16 1) (main_v17 : IVec S8192 32) (main_v18 : IVec S8192 32) : IVec S8192x16 1 × IVec S8192 1 × IVec S8192x16 1 × IVec S8192 1 × IVec S8192x16 1 × IVec S8192 1 × IVec S8192x16 1 × IVec S8192 1 × IVec S32768 1 :=
  let main_v19 : IVec S8192 1 := cmpi .eq main_v17 main_v18
  let main_v20 : FVec F S8192x3 .f32 := (extractStridedSlice S8192x3 ![8192, 0] · slices_S32768x3_S8192x3_8192_0) main_arg1
  let main_v21 : FVec F S8192x3 .f32 := mulf main_v20 main_v20
  let main_cst_1 : FVec F S_ .f32 := constant S_ .f32 0x00000000#32
  let main_v22 : FVec F S8192 .f32 := (fun x v => Host.reduceAdd x v reducesTo_S8192x3_S8192_d1 h_S_) main_v21 main_cst_1
  let main_v23 : FVec F S8192x1 .f32 := broadcastInDim S8192x1 ![0] bcast_S8192_S8192x1_0 main_v22
  let main_v24 : FVec F S1x8192 .f32 := broadcastInDim S1x8192 ![1] bcast_S8192_S1x8192_1 main_v22
  let main_v25 : FVec F S8192x8192 .f32 := broadcastInDim S8192x8192 ![0, 1] bcast_S8192x1_S8192x8192_0_1 main_v23
  let main_v26 : FVec F S8192x8192 .f32 := broadcastInDim S8192x8192 ![0, 1] bcast_S1x8192_S8192x8192_0_1 main_v24
  let main_v27 : FVec F S8192x8192 .f32 := addf main_v25 main_v26
  let main_v28 : FVec F S3x8192 .f32 := (transpose S3x8192 [1, 0] · transposes_S8192x3_S3x8192_1_0) main_v20
  let main_v29 : FVec F S8192x8192 .f32 := (fun l r => Host.dotGeneral dot_S8192x3_S3x8192_S8192x8192_1_0_0_1_n_n none l r) main_v20 main_v28
  let main_cst_2 : FVec F S_ .f32 := constant S_ .f32 0x40000000#32
  let main_v30 : FVec F S8192x8192 .f32 := broadcastInDim S8192x8192 ![] bcast_S_S8192x8192 main_cst_2
  let main_v31 : FVec F S8192x8192 .f32 := mulf main_v30 main_v29
  let main_v32 : FVec F S8192x8192 .f32 := subf main_v27 main_v31
  let main_v33 : FVec F S8192x8192 .f32 := Host.negf main_v32
  let main_values_3 : FVec F S8192x17 .f32 := (fun x => (Host.topK S8192x17 1 (FloatOps.cmpfTotal .gt) x sliceFits_S8192x8192_S8192x17).1) main_v33
  let main_indices_4 : IVec S8192x17 32 := (fun x => (Host.topK S8192x17 1 (FloatOps.cmpfTotal .gt) x sliceFits_S8192x8192_S8192x17).2) main_v33
  let main_v34 : FVec F S8192x16 .f32 := (extractStridedSlice S8192x16 ![0, 0] · slices_S8192x17_S8192x16_0_0) main_values_3
  let main_v35 : FVec F S8192x16 .f32 := (extractStridedSlice S8192x16 ![0, 1] · slices_S8192x17_S8192x16_0_1) main_values_3
  let main_v36 : IVec S8192x16 1 := cmpf .ogt main_v34 main_v35
  let main_v37 : IVec S8192 32 := (extractStridedSlice S8192 ![8192] · slices_S32768_S8192_8192) main_arg3
  let main_c_5 : IVec S_ 32 := constantI S_ 32 1#32
  fn_part2 (F := F) main_arg0 main_arg1 main_arg3 main_v16 main_v19 main_v36 main_v37 main_c_5

def fn {F : FTy → Type} [FloatOps F] (main_arg0 : FVec F S32768 .f32) (main_arg1 : FVec F S32768x3 .f32) (main_arg2 : FVec F S32768x256 .f32) (main_arg3 : IVec S32768 32) (main_arg4 : IVec S4 32) : IVec S8192x16 1 × IVec S8192 1 × IVec S8192x16 1 × IVec S8192 1 × IVec S8192x16 1 × IVec S8192 1 × IVec S8192x16 1 × IVec S8192 1 × IVec S32768 1 :=
  let main_v0 : FVec F S8192x3 .f32 := (extractStridedSlice S8192x3 ![0, 0] · slices_S32768x3_S8192x3_0_0) main_arg1
  let main_v1 : FVec F S8192x3 .f32 := mulf main_v0 main_v0
  let main_cst : FVec F S_ .f32 := constant S_ .f32 0x00000000#32
  let main_v2 : FVec F S8192 .f32 := (fun x v => Host.reduceAdd x v reducesTo_S8192x3_S8192_d1 h_S_) main_v1 main_cst
  let main_v3 : FVec F S8192x1 .f32 := broadcastInDim S8192x1 ![0] bcast_S8192_S8192x1_0 main_v2
  let main_v4 : FVec F S1x8192 .f32 := broadcastInDim S1x8192 ![1] bcast_S8192_S1x8192_1 main_v2
  let main_v5 : FVec F S8192x8192 .f32 := broadcastInDim S8192x8192 ![0, 1] bcast_S8192x1_S8192x8192_0_1 main_v3
  let main_v6 : FVec F S8192x8192 .f32 := broadcastInDim S8192x8192 ![0, 1] bcast_S1x8192_S8192x8192_0_1 main_v4
  let main_v7 : FVec F S8192x8192 .f32 := addf main_v5 main_v6
  let main_v8 : FVec F S3x8192 .f32 := (transpose S3x8192 [1, 0] · transposes_S8192x3_S3x8192_1_0) main_v0
  let main_v9 : FVec F S8192x8192 .f32 := (fun l r => Host.dotGeneral dot_S8192x3_S3x8192_S8192x8192_1_0_0_1_n_n none l r) main_v0 main_v8
  let main_cst_0 : FVec F S_ .f32 := constant S_ .f32 0x40000000#32
  let main_v10 : FVec F S8192x8192 .f32 := broadcastInDim S8192x8192 ![] bcast_S_S8192x8192 main_cst_0
  let main_v11 : FVec F S8192x8192 .f32 := mulf main_v10 main_v9
  let main_v12 : FVec F S8192x8192 .f32 := subf main_v7 main_v11
  let main_v13 : FVec F S8192x8192 .f32 := Host.negf main_v12
  let main_values : FVec F S8192x17 .f32 := (fun x => (Host.topK S8192x17 1 (FloatOps.cmpfTotal .gt) x sliceFits_S8192x8192_S8192x17).1) main_v13
  let main_indices : IVec S8192x17 32 := (fun x => (Host.topK S8192x17 1 (FloatOps.cmpfTotal .gt) x sliceFits_S8192x8192_S8192x17).2) main_v13
  let main_v14 : FVec F S8192x16 .f32 := (extractStridedSlice S8192x16 ![0, 0] · slices_S8192x17_S8192x16_0_0) main_values
  let main_v15 : FVec F S8192x16 .f32 := (extractStridedSlice S8192x16 ![0, 1] · slices_S8192x17_S8192x16_0_1) main_values
  let main_v16 : IVec S8192x16 1 := cmpf .ogt main_v14 main_v15
  let main_v17 : IVec S8192 32 := (extractStridedSlice S8192 ![0] · slices_S32768_S8192_0) main_arg3
  let main_c : IVec S_ 32 := constantI S_ 32 0#32
  let main_v18 : IVec S8192 32 := broadcastInDim S8192 ![] bcast_S_S8192 main_c
  fn_part1 (F := F) main_arg0 main_arg1 main_arg3 main_v16 main_v17 main_v18
-- ==== Kernel.lean ====
abbrev S32768 : Shape := ⟨1, ![32768]⟩
abbrev S32768x3 : Shape := ⟨2, ![32768, 3]⟩
abbrev S32768x256 : Shape := ⟨2, ![32768, 256]⟩
abbrev S4 : Shape := ⟨1, ![4]⟩
abbrev S4x1x256 : Shape := ⟨3, ![4, 1, 256]⟩
abbrev S8192x256 : Shape := ⟨2, ![8192, 256]⟩
abbrev S1x1x256 : Shape := ⟨3, ![1, 1, 256]⟩
abbrev S256 : Shape := ⟨1, ![256]⟩
abbrev S1x256 : Shape := ⟨2, ![1, 256]⟩
abbrev S3x32768 : Shape := ⟨2, ![3, 32768]⟩
abbrev S32768x1 : Shape := ⟨2, ![32768, 1]⟩
abbrev S_ : Shape := ⟨0, ![]⟩
abbrev S32768x4 : Shape := ⟨2, ![32768, 4]⟩
abbrev S1x1 : Shape := ⟨2, ![1, 1]⟩
abbrev S128x3 : Shape := ⟨2, ![128, 3]⟩
abbrev S3x8192 : Shape := ⟨2, ![3, 8192]⟩
abbrev S128x1 : Shape := ⟨2, ![128, 1]⟩
abbrev S8192x4 : Shape := ⟨2, ![8192, 4]⟩
abbrev S128x256 : Shape := ⟨2, ![128, 256]⟩
abbrev S128 : Shape := ⟨1, ![128]⟩
abbrev S8192 : Shape := ⟨1, ![8192]⟩
abbrev S1x8192 : Shape := ⟨2, ![1, 8192]⟩
abbrev S128x8192 : Shape := ⟨2, ![128, 8192]⟩
abbrev S128x4 : Shape := ⟨2, ![128, 4]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 22
  | .vmem => 17
  | .smem => 0
  | _ => 0

abbrev bufTy : (tb : Table) → Fin (tcTables nBuf tb) → BufTy
  | .hbm, ⟨0, _⟩ => ⟨S32768, .f32⟩
  | .hbm, ⟨1, _⟩ => ⟨S32768x3, .f32⟩
  | .hbm, ⟨2, _⟩ => ⟨S32768x256, .f32⟩
  | .hbm, ⟨3, _⟩ => ⟨S32768, .i32⟩
  | .hbm, ⟨4, _⟩ => ⟨S4, .i32⟩
  | .hbm, ⟨5, _⟩ => ⟨S4x1x256, .f32⟩
  | .hbm, ⟨6, _⟩ => ⟨S3x32768, .f32⟩
  | .hbm, ⟨7, _⟩ => ⟨S32768x1, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x4, .f32⟩
  | .hbm, ⟨19, _⟩ => ⟨S32768x4, .bf16⟩
  | .hbm, ⟨20, _⟩ => ⟨S1x1, .f32⟩
  | .hbm, ⟨21, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S1x1x256, .f32⟩
  | .local _ .vmem, ⟨3, _⟩ => ⟨S1x1x256, .f32⟩
  | .local _ .vmem, ⟨4, _⟩ => ⟨S128x3, .f32⟩
  | .local _ .vmem, ⟨5, _⟩ => ⟨S128x3, .f32⟩
  | .local _ .vmem, ⟨6, _⟩ => ⟨S3x8192, .f32⟩
  | .local _ .vmem, ⟨7, _⟩ => ⟨S3x8192, .f32⟩
  | .local _ .vmem, ⟨8, _⟩ => ⟨S128x1, .f32⟩
  | .local _ .vmem, ⟨9, _⟩ => ⟨S128x1, .f32⟩
  | .local _ .vmem, ⟨10, _⟩ => ⟨S8192x4, .bf16⟩
  | .local _ .vmem, ⟨11, _⟩ => ⟨S8192x4, .bf16⟩
  | .local _ .vmem, ⟨12, _⟩ => ⟨S128x256, .f32⟩
  | .local _ .vmem, ⟨13, _⟩ => ⟨S128x256, .f32⟩
  | .local _ .vmem, ⟨14, _⟩ => ⟨S1x1x256, .f32⟩
  | .local _ .vmem, ⟨15, _⟩ => ⟨S1x1x256, .f32⟩
  | .local _ .vmem, ⟨16, _⟩ => ⟨S1x1, .f32⟩
  | _, _ => ⟨S32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8192x4 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]
-- ==== ReferenceIdeal.lean ====
abbrev S32768 : Shape := ⟨1, ![32768]⟩
abbrev S32768x3 : Shape := ⟨2, ![32768, 3]⟩
abbrev S32768x256 : Shape := ⟨2, ![32768, 256]⟩
abbrev S4 : Shape := ⟨1, ![4]⟩
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S8192x16 : Shape := ⟨2, ![8192, 16]⟩
abbrev S32768x16 : Shape := ⟨2, ![32768, 16]⟩
abbrev S32768x16x1 : Shape := ⟨3, ![32768, 16, 1]⟩
abbrev S32768x1 : Shape := ⟨2, ![32768, 1]⟩
abbrev S256 : Shape := ⟨1, ![256]⟩
abbrev S1x256 : Shape := ⟨2, ![1, 256]⟩
abbrev S4x256 : Shape := ⟨2, ![4, 256]⟩

abbrev nBuf : Space → Nat
  | .hbm => 202
  | .vmem => 0
  | .smem => 0
  | _ => 0

abbrev hbmTy0_0 (i : Nat) : BufTy := match i % 128 with
  | 0 => ⟨S32768, .f32⟩
  | 1 => ⟨S32768x3, .f32⟩
  | 2 => ⟨S32768x256, .f32⟩
  | 3 => ⟨S32768, .i32⟩
  | 4 => ⟨S4, .i32⟩
  | 5 => ⟨S8192x3, .f32⟩
  | 6 => ⟨S8192x3, .f32⟩
  | 7 => ⟨S_, .f32⟩
  | 8 => ⟨S8192, .f32⟩
  | 9 => ⟨S8192x1, .f32⟩
  | 10 => ⟨S1x8192, .f32⟩
  | 11 => ⟨S8192x8192, .f32⟩
  | 12 => ⟨S8192x8192, .f32⟩
  | 13 => ⟨S8192x8192, .f32⟩
  | 14 => ⟨S3x8192, .f32⟩
  | 15 => ⟨S8192x8192, .f32⟩
  | 16 => ⟨S_, .f32⟩
  | 17 => ⟨S8192x8192, .f32⟩
  | 18 => ⟨S8192x8192, .f32⟩
  | 19 => ⟨S8192x8192, .f32⟩
  | 20 => ⟨S8192x8192, .f32⟩
  | 21 => ⟨S8192x16, .f32⟩
  | 22 => ⟨S8192x16, .i32⟩
  | 23 => ⟨S_, .i32⟩
  | 24 => ⟨S8192x16, .i32⟩
  | 25 => ⟨S8192x16, .i32⟩
  | 26 => ⟨S8192x3, .f32⟩
  | 27 => ⟨S8192x3, .f32⟩
  | 28 => ⟨S_, .f32⟩
  | 29 => ⟨S8192, .f32⟩
  | 30 => ⟨S8192x1, .f32⟩
  | 31 => ⟨S1x8192, .f32⟩
  | 32 => ⟨S8192x8192, .f32⟩
  | 33 => ⟨S8192x8192, .f32⟩
  | 34 => ⟨S8192x8192, .f32⟩
  | 35 => ⟨S3x8192, .f32⟩
  | 36 => ⟨S8192x8192, .f32⟩
  | 37 => ⟨S_, .f32⟩
  | 38 => ⟨S8192x8192, .f32⟩
  | 39 => ⟨S8192x8192, .f32⟩
  | 40 => ⟨S8192x8192, .f32⟩
  | 41 => ⟨S8192x8192, .f32⟩
  | 42 => ⟨S8192x16, .f32⟩
  | 43 => ⟨S8192x16, .i32⟩
  | 44 => ⟨S_, .i32⟩
  | 45 => ⟨S8192x16, .i32⟩
  | 46 => ⟨S8192x16, .i32⟩
  | 47 => ⟨S8192x3, .f32⟩
  | 48 => ⟨S8192x3, .f32⟩
  | 49 => ⟨S_, .f32⟩
  | 50 => ⟨S8192, .f32⟩
  | 51 => ⟨S8192x1, .f32⟩
  | 52 => ⟨S1x8192, .f32⟩
  | 53 => ⟨S8192x8192, .f32⟩
  | 54 => ⟨S8192x8192, .f32⟩
  | 55 => ⟨S8192x8192, .f32⟩
  | 56 => ⟨S3x8192, .f32⟩
  | 57 => ⟨S8192x8192, .f32⟩
  | 58 => ⟨S_, .f32⟩
  | 59 => ⟨S8192x8192, .f32⟩
  | 60 => ⟨S8192x8192, .f32⟩
  | 61 => ⟨S8192x8192, .f32⟩
  | 62 => ⟨S8192x8192, .f32⟩
  | 63 => ⟨S8192x16, .f32⟩
  | 64 => ⟨S8192x16, .i32⟩
  | 65 => ⟨S_, .i32⟩
  | 66 => ⟨S8192x16, .i32⟩
  | 67 => ⟨S8192x16, .i32⟩
  | 68 => ⟨S8192x3, .f32⟩
  | 69 => ⟨S8192x3, .f32⟩
  | 70 => ⟨S_, .f32⟩
  | 71 => ⟨S8192, .f32⟩
  | 72 => ⟨S8192x1, .f32⟩
  | 73 => ⟨S1x8192, .f32⟩
  | 74 => ⟨S8192x8192, .f32⟩
  | 75 => ⟨S8192x8192, .f32⟩
  | 76 => ⟨S8192x8192, .f32⟩
  | 77 => ⟨S3x8192, .f32⟩
  | 78 => ⟨S8192x8192, .f32⟩
  | 79 => ⟨S_, .f32⟩
  | 80 => ⟨S8192x8192, .f32⟩
  | 81 => ⟨S8192x8192, .f32⟩
  | 82 => ⟨S8192x8192, .f32⟩
  | 83 => ⟨S8192x8192, .f32⟩
  | 84 => ⟨S8192x16, .f32⟩
  | 85 => ⟨S8192x16, .i32⟩
  | 86 => ⟨S_, .i32⟩
  | 87 => ⟨S8192x16, .i32⟩
  | 88 => ⟨S8192x16, .i32⟩
  | 89 => ⟨S32768x16, .i32⟩
  | 90 => ⟨S_, .i32⟩
  | 91 => ⟨S_, .i32⟩
  | 92 => ⟨S_, .i32⟩
  | 93 => ⟨S32768x16, .i32⟩
  | 94 => ⟨S32768x16, .i32⟩
  | 95 => ⟨S_, .i32⟩
  | 96 => ⟨S32768x16, .i32⟩
  | 97 => ⟨S32768x16, .i32⟩
  | 98 => ⟨S_, .i32⟩
  | 99 => ⟨S32768x16, .i32⟩
  | 100 => ⟨S32768x16, .i1⟩
  | 101 => ⟨S_, .i32⟩
  | 102 => ⟨S32768x16, .i32⟩
  | 103 => ⟨S32768x16, .i32⟩
  | 104 => ⟨S32768x16, .i32⟩
  | 105 => ⟨S32768x16x1, .i32⟩
  | 106 => ⟨S32768x16, .f32⟩
  | 107 => ⟨S32768x1, .f32⟩
  | 108 => ⟨S32768x16, .f32⟩
  | 109 => ⟨S32768x16, .f32⟩
  | 110 => ⟨S32768x16, .f32⟩
  | 111 => ⟨S_, .f32⟩
  | 112 => ⟨S_, .f32⟩
  | 113 => ⟨S_, .f32⟩
  | 114 => ⟨S_, .f32⟩
  | 115 => ⟨S_, .i32⟩
  | 116 => ⟨S32768, .i32⟩
  | 117 => ⟨S32768, .i1⟩
  | 118 => ⟨S32768x1, .i1⟩
  | 119 => ⟨S_, .f32⟩
  | 120 => ⟨S_, .f32⟩
  | 121 => ⟨S32768x256, .i1⟩
  | 122 => ⟨S32768x256, .f32⟩
  | 123 => ⟨S32768x256, .f32⟩
  | 124 => ⟨S_, .f32⟩
  | 125 => ⟨S256, .f32⟩
  | 126 => ⟨S_, .i32⟩
  | 127 => ⟨S32768, .i32⟩
  | _ => ⟨S32768, .f32⟩

abbrev hbmTy0_1 (i : Nat) : BufTy := match i % 128 with
  | 0 => ⟨S32768, .i1⟩
  | 1 => ⟨S32768x1, .i1⟩
  | 2 => ⟨S_, .f32⟩
  | 3 => ⟨S_, .f32⟩
  | 4 => ⟨S32768x256, .i1⟩
  | 5 => ⟨S32768x256, .f32⟩
  | 6 => ⟨S32768x256, .f32⟩
  | 7 => ⟨S_, .f32⟩
  | 8 => ⟨S256, .f32⟩
  | 9 => ⟨S_, .i32⟩
  | 10 => ⟨S32768, .i32⟩
  | 11 => ⟨S32768, .i1⟩
  | 12 => ⟨S32768x1, .i1⟩
  | 13 => ⟨S_, .f32⟩
  | 14 => ⟨S_, .f32⟩
  | 15 => ⟨S32768x256, .i1⟩
  | 16 => ⟨S32768x256, .f32⟩
  | 17 => ⟨S32768x256, .f32⟩
  | 18 => ⟨S_, .f32⟩
  | 19 => ⟨S256, .f32⟩
  | 20 => ⟨S_, .i32⟩
  | 21 => ⟨S32768, .i32⟩
  | 22 => ⟨S32768, .i1⟩
  | 23 => ⟨S32768x1, .i1⟩
  | 24 => ⟨S_, .f32⟩
  | 25 => ⟨S_, .f32⟩
  | 26 => ⟨S32768x256, .i1⟩
  | 27 => ⟨S32768x256, .f32⟩
  | 28 => ⟨S32768x256, .f32⟩
  | 29 => ⟨S_, .f32⟩
  | 30 => ⟨S256, .f32⟩
  | 31 => ⟨S1x256, .f32⟩
  | 32 => ⟨S1x256, .f32⟩
  | 33 => ⟨S1x256, .f32⟩
  | 34 => ⟨S1x256, .f32⟩
  | 35 => ⟨S4x256, .f32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S32768x1, .i32⟩
  | 44 => ⟨S32768x256, .f32⟩
  | 45 => ⟨S32768x256, .f32⟩
  | 46 => ⟨S_, .f32⟩
  | 47 => ⟨S32768x256, .f32⟩
  | 48 => ⟨S32768x256, .f32⟩
  | 49 => ⟨S32768x256, .f32⟩
  | 50 => ⟨S32768x256, .f32⟩
  | 51 => ⟨S_, .f32⟩
  | 52 => ⟨S32768x256, .f32⟩
  | 53 => ⟨S32768x256, .f32⟩
  | 54 => ⟨S_, .f32⟩
  | 55 => ⟨S32768x256, .f32⟩
  | 56 => ⟨S32768x256, .f32⟩
  | 57 => ⟨S_, .f32⟩
  | 58 => ⟨S32768x256, .f32⟩
  | 59 => ⟨S32768x256, .f32⟩
  | 60 => ⟨S_, .f32⟩
  | 61 => ⟨S32768, .f32⟩
  | 62 => ⟨S32768x1, .f32⟩
  | 63 => ⟨S_, .f32⟩
  | 64 => ⟨S32768x1, .f32⟩
  | 65 => ⟨S32768x1, .f32⟩
  | 66 => ⟨S32768x1, .f32⟩
  | 67 => ⟨S32768x1, .f32⟩
  | 68 => ⟨S32768x1, .f32⟩
  | 69 => ⟨S_, .f32⟩
  | 70 => ⟨S_, .f32⟩
  | 71 => ⟨S_, .f32⟩
  | 72 => ⟨S_, .f32⟩
  | 73 => ⟨S_, .f32⟩
  | _ => ⟨S32768, .f32⟩

abbrev hbmTy (i : Nat) : BufTy := match i / 128 with
  | 0 => hbmTy0_0 i
  | 1 => hbmTy0_1 i
  | _ => ⟨S32768, .f32⟩

abbrev bufTy : (tb : Table) → Fin (tcTables nBuf tb) → BufTy
  | .hbm, ⟨i, _⟩ => hbmTy i
  | _, _ => ⟨S32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_values : Ref sig .tc := ⟨.hbm, 21, rfl⟩
abbrev main_indices : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_values_3 : Ref sig .tc := ⟨.hbm, 42, rfl⟩
abbrev main_indices_4 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_values_8 : Ref sig .tc := ⟨.hbm, 63, rfl⟩
abbrev main_indices_9 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_values_13 : Ref sig .tc := ⟨.hbm, 84, rfl⟩
abbrev main_indices_14 : Ref sig .tc := ⟨.hbm, 85, rfl⟩
abbrev main_c_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_16 : Ref sig .tc := ⟨.hbm, 90, rfl⟩
abbrev main_c_17 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_v65 : Ref sig .tc := ⟨.hbm, 97, rfl⟩
abbrev main_c_18 : Ref sig .tc := ⟨.hbm, 98, rfl⟩
abbrev main_v66 : Ref sig .tc := ⟨.hbm, 99, rfl⟩
abbrev main_v67 : Ref sig .tc := ⟨.hbm, 100, rfl⟩
abbrev main_c_19 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_20 : Ref sig .tc := ⟨.hbm, 111, rfl⟩
abbrev main_v77 : Ref sig .tc := ⟨.hbm, 112, rfl⟩
abbrev main_cst_21 : Ref sig .tc := ⟨.hbm, 113, rfl⟩
abbrev main_v78 : Ref sig .tc := ⟨.hbm, 114, rfl⟩
abbrev main_c_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_23 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v82 : Ref sig .tc := ⟨.hbm, 123, rfl⟩
abbrev main_cst_24 : Ref sig .tc := ⟨.hbm, 124, rfl⟩
abbrev main_v83 : Ref sig .tc := ⟨.hbm, 125, rfl⟩
abbrev main_c_25 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_26 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_v87 : Ref sig .tc := ⟨.hbm, 134, rfl⟩
abbrev main_cst_27 : Ref sig .tc := ⟨.hbm, 135, rfl⟩
abbrev main_v88 : Ref sig .tc := ⟨.hbm, 136, rfl⟩
abbrev main_c_28 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_29 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v92 : Ref sig .tc := ⟨.hbm, 145, rfl⟩
abbrev main_cst_30 : Ref sig .tc := ⟨.hbm, 146, rfl⟩
abbrev main_v93 : Ref sig .tc := ⟨.hbm, 147, rfl⟩
abbrev main_c_31 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_32 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v97 : Ref sig .tc := ⟨.hbm, 156, rfl⟩
abbrev main_cst_33 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_c_34 : Ref sig .tc := ⟨.hbm, 164, rfl⟩
abbrev main_v104 : Ref sig .tc := ⟨.hbm, 165, rfl⟩
abbrev main_v105 : Ref sig .tc := ⟨.hbm, 166, rfl⟩
abbrev main_c_35 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_36 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_37 : Ref sig .tc := ⟨.hbm, 179, rfl⟩
abbrev main_v116 : Ref sig .tc := ⟨.hbm, 180, rfl⟩
abbrev main_v117 : Ref sig .tc := ⟨.hbm, 181, rfl⟩
abbrev main_cst_38 : Ref sig .tc := ⟨.hbm, 182, rfl⟩
abbrev main_v118 : Ref sig .tc := ⟨.hbm, 183, rfl⟩
abbrev main_v119 : Ref sig .tc := ⟨.hbm, 184, rfl⟩
abbrev main_cst_39 : Ref sig .tc := ⟨.hbm, 185, rfl⟩
abbrev main_v120 : Ref sig .tc := ⟨.hbm, 186, rfl⟩
abbrev main_v121 : Ref sig .tc := ⟨.hbm, 187, rfl⟩
abbrev main_cst_40 : Ref sig .tc := ⟨.hbm, 188, rfl⟩
abbrev main_v122 : Ref sig .tc := ⟨.hbm, 189, rfl⟩
abbrev main_v123 : Ref sig .tc := ⟨.hbm, 190, rfl⟩
abbrev main_cst_41 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_42 : Ref sig .tc := ⟨.hbm, 197, rfl⟩
abbrev main_v129 : Ref sig .tc := ⟨.hbm, 198, rfl⟩
abbrev main_cst_43 : Ref sig .tc := ⟨.hbm, 199, rfl⟩
abbrev main_v130 : Ref sig .tc := ⟨.hbm, 200, rfl⟩
abbrev main_v131 : Ref sig .tc := ⟨.hbm, 201, rfl⟩

abbrev nD : Nat := 1
abbrev τ : Topo := Topo.v7x

variable {F : FTy → Type} [FloatOps F]
-- ==== Proof.Frames.lean ====
/- The reference's frame with its counters. -/
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Adequacy

@[expose] public section

noncomputable section

namespace Cert.Proof

open Idealize.ShloMosaic Idealize.SL.Sem

/-- The reference leaves its arguments and every counter as it found them. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

end Cert.Proof

end
-- ==== Proof.KernelRun.lean ====
/- The kernel's run: where its result buffer ends, in terms of the fold of buffer contents over @main. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.isDefEq.respectTransparency.types false in
/-- From any memory with zero counters the kernel runs, its arguments end as launched, and its result buffer
    ends at the contents the last segment boundary gives it. -/
theorem kernel_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Proof

end
-- ==== Proof.Core.lean ====
/- The mathematics of the equation, on functions of finite index sets: sixteen rounds that drop the smallest entry
   mark exactly the sixteen smallest entries; the moments of the marked entries give the sum of squared differences;
   division by a positive number distributes over sums of nonnegative extended reals. -/
module

public import Mathlib.Data.EReal.Operations
public import Mathlib.Data.EReal.Inv
public import Mathlib.Algebra.BigOperators.Fin
public import Mathlib.Tactic.Ring
public import Mathlib.Tactic.Linarith

@[expose] public section

noncomputable section

namespace Cert.Core

/-- One round: every entry at most the smallest becomes `⊤`. -/
def strip {n : ℕ} (f : Fin n → EReal) : Fin n → EReal :=
  fun j => if f j ≤ Finset.univ.fold min ⊤ f then ⊤ else f j

/-- The smallest entry is at most every entry. -/
theorem fold_min_le {n : ℕ} (f : Fin n → EReal) (j : Fin n) : Finset.univ.fold min ⊤ f ≤ f j :=
  (Finset.le_fold_min _ (f := f) (b := ⊤)).mp le_rfl |>.2 j (Finset.mem_univ j)

/-- A lower bound of all entries is at most the smallest. -/
theorem le_fold_min {n : ℕ} (f : Fin n → EReal) (a : EReal) (h : ∀ j, a ≤ f j) : a ≤ Finset.univ.fold min ⊤ f :=
  (Finset.le_fold_min _).mpr ⟨le_top, fun j _ => h j⟩

/-- `p` names the 17 smallest entries of `d` in strictly increasing order, and every entry is below `⊤`. -/
structure Nearest {n : ℕ} (d : Fin n → EReal) (p : Fin 17 → Fin n) : Prop where
  mono : StrictMono fun k => d (p k)
  rest : ∀ j, (∀ k, p k ≠ j) → d (p 16) ≤ d j
  fin : ∀ j, d j < ⊤

theorem Nearest.inj {n : ℕ} {d : Fin n → EReal} {p : Fin 17 → Fin n} (h : Nearest d p) : Function.Injective p :=
  fun a b hab => h.mono.injective (congrArg d hab)

/-- Sixteen applications, written out. -/
theorem iterate16 {α : Type} (f : α → α) (y : α) :
    f^[16] y = f (f (f (f (f (f (f (f (f (f (f (f (f (f (f (f y))))))))))))))) := rfl

/-- After `k ≤ 16` rounds the entries named by the first `k` positions are `⊤` and the others unchanged. -/
theorem strip_iter {n : ℕ} {d : Fin n → EReal} {p : Fin 17 → Fin n} (h : Nearest d p) (k : ℕ) (hk : k ≤ 16) (j : Fin n) :
    (strip^[k] d) j = if ∃ i : Fin 17, i.val < k ∧ p i = j then ⊤ else d j := by
  induction k generalizing j with
  | zero => simp
  | succ k ih =>
    have ih := fun j => ih (by omega) j
    rw [Function.iterate_succ_apply']
    have hm : Finset.univ.fold min ⊤ (strip^[k] d) = d (p ⟨k, by omega⟩) := by
      apply le_antisymm
      · refine (fold_min_le _ (p ⟨k, by omega⟩)).trans (le_of_eq ?_)
        rw [ih, if_neg]
        rintro ⟨i, hi, he⟩
        have := congrArg Fin.val (h.inj he)
        simp only at this; omega
      · refine le_fold_min _ _ fun j => ?_
        rw [ih]
        split
        · exact le_top
        · rename_i hn
          by_cases hj : ∃ i, p i = j
          · obtain ⟨i, rfl⟩ := hj
            refine h.mono.monotone ?_
            rw [Fin.le_def]
            by_contra hc
            exact hn ⟨i, by simpa using hc, rfl⟩
          · refine (h.mono.monotone ?_).trans (h.rest j fun i hi => hj ⟨i, hi⟩)
            rw [Fin.le_def]; simp only [Fin.val_ofNat]; omega
    change (if (strip^[k] d) j ≤ Finset.univ.fold min ⊤ (strip^[k] d) then ⊤ else (strip^[k] d) j) = _
    rw [hm, ih]
    by_cases hlt : ∃ i : Fin 17, i.val < k ∧ p i = j
    · rw [if_pos hlt, if_pos (show ∃ i : Fin 17, i.val < k + 1 ∧ p i = j from let ⟨i, a, b⟩ := hlt; ⟨i, by omega, b⟩)]
      simp
    · rw [if_neg hlt]
      by_cases hj : p ⟨k, by omega⟩ = j
      · rw [if_pos (show d j ≤ d (p ⟨k, by omega⟩) by rw [hj]),
          if_pos (show ∃ i : Fin 17, i.val < k + 1 ∧ p i = j from ⟨_, by simp, hj⟩)]
      · have hd : d (p ⟨k, by omega⟩) < d j := by
          by_cases hj' : ∃ i, p i = j
          · obtain ⟨i, rfl⟩ := hj'
            refine h.mono ?_
            rw [Fin.lt_def]
            have h1 : ¬ i.val < k := fun hc => hlt ⟨i, hc, rfl⟩
            have h2 : i.val ≠ k := fun hc => hj (congrArg p (Fin.ext hc.symm))
            simp only; omega
          · refine (h.mono ?_).trans_le (h.rest j fun i hi => hj' ⟨i, hi⟩)
            rw [Fin.lt_def]; simp only [Fin.val_ofNat]; omega
        rw [if_neg (not_le.mpr hd), if_neg]
        rintro ⟨i, hi, he⟩
        rcases Nat.lt_succ_iff_lt_or_eq.mp hi with hi | hi
        · exact hlt ⟨i, hi, he⟩
        · exact hj ((congrArg p (Fin.ext hi.symm)).trans he)

/-- An entry is `⊤` after the sixteen rounds exactly when it is one of the sixteen smallest. -/
theorem strip_eq_top {n : ℕ} {d : Fin n → EReal} {p : Fin 17 → Fin n} (h : Nearest d p) (j : Fin n) :
    (strip^[16] d) j = ⊤ ↔ ∃ k : Fin 16, p k.castSucc = j := by
  rw [strip_iter h 16 le_rfl]
  constructor
  · intro ht
    split at ht
    · rename_i hc
      obtain ⟨i, hi, he⟩ := hc
      exact ⟨⟨i, hi⟩, he⟩
    · exact absurd ht (h.fin j).ne
  · rintro ⟨k, hk⟩
    rw [if_pos ⟨k.castSucc, k.isLt, hk⟩]

/-- The sum over the marked entries is the sum over the sixteen smallest. -/
theorem sum_marked {n : ℕ} {d : Fin n → EReal} {p : Fin 17 → Fin n} (h : Nearest d p) (g : Fin n → EReal) :
    (∑ j, (if (strip^[16] d) j = ⊤ then (1 : EReal) else 0) * g j) = ∑ k : Fin 16, g (p k.castSucc) := by
  classical
  have hinj : Function.Injective fun k : Fin 16 => p k.castSucc :=
    h.inj.comp (Fin.castSucc_injective 16)
  rw [← Finset.sum_image (s := Finset.univ) (g := fun k : Fin 16 => p k.castSucc) (f := g) hinj.injOn,
    ← Finset.sum_subset (Finset.subset_univ (Finset.univ.image fun k : Fin 16 => p k.castSucc))]
  · refine Finset.sum_congr rfl fun j hj => ?_
    rw [if_pos, one_mul]
    rw [strip_eq_top h]
    simpa using hj
  · intro j _ hj
    rw [if_neg, zero_mul]
    rw [strip_eq_top h]
    simpa using hj

/-- The row's value from its moments: count 16, sum and sum of squares of sixteen real numbers. -/
theorem row_moments (s : ℝ) (q : Fin 16 → ℝ) :
    ((16 : EReal) * (s : EReal) * s - (2 * (s : EReal)) * (∑ k, ((q k : ℝ) : EReal)) + ∑ k, ((q k : ℝ) : EReal) * (q k : ℝ)) * (16 * (16 : EReal)⁻¹)
      = ∑ k, ((s : EReal) - (q k : ℝ)) * ((s : EReal) - (q k : ℝ)) := by
  have h16 : (16 : EReal) * (16 : EReal)⁻¹ = 1 := by
    have : ((16 : ℝ) : EReal) * ((16 : ℝ) : EReal)⁻¹ = 1 := by
      rw [← EReal.coe_inv, ← EReal.coe_mul]; norm_num
    exact_mod_cast this
  rw [h16, mul_one]
  have e : ((16 : ℝ) : EReal) = 16 := rfl
  have e2 : ((2 : ℝ) : EReal) = 2 := rfl
  rw [← e, ← e2]
  simp only [← EReal.coe_mul, ← EReal.coe_sub]
  have hs : ∀ f : Fin 16 → ℝ, (∑ k, ((f k : ℝ) : EReal)) = ((∑ k, f k : ℝ) : EReal) := fun f => by
    induction (Finset.univ : Finset (Fin 16)) using Finset.induction_on with
    | empty => simp
    | insert a t ha ih => rw [Finset.sum_insert ha, Finset.sum_insert ha, ih, EReal.coe_add]
  rw [hs, hs, hs]
  simp only [← EReal.coe_mul, ← EReal.coe_sub, ← EReal.coe_add]
  congr 1
  have : ∀ k, (s - q k) * (s - q k) = s * s - 2 * s * q k + q k * q k := fun k => by ring
  simp only [this, Finset.sum_add_distrib, Finset.sum_sub_distrib, ← Finset.mul_sum, Finset.sum_const, Finset.card_univ, Fintype.card_fin, nsmul_eq_mul]
  push_cast
  ring

/-- A square is not negative. -/
theorem sq_nonneg' (x : EReal) : 0 ≤ x * x := by
  induction x with
  | bot => simp
  | coe r => rw [← EReal.coe_mul]; exact_mod_cast mul_self_nonneg r
  | top => simp

/-- A sum of nonnegative extended reals times a factor. -/
theorem sum_mul_of_nonneg {ι : Type} (s : Finset ι) (f : ι → EReal) (c : EReal) (h : ∀ i, 0 ≤ f i) :
    (∑ i ∈ s, f i) * c = ∑ i ∈ s, f i * c := by
  classical
  induction s using Finset.induction_on with
  | empty => simp
  | insert a t ha ih =>
    rw [Finset.sum_insert ha, Finset.sum_insert ha, EReal.right_distrib_of_nonneg (h a) (Finset.sum_nonneg fun i _ => h i), ih]

end Cert.Core

end
-- ==== Proof.Consts.lean ====
/- The constants of the two programs as extended reals. -/
module

public import Idealize.ShloMosaic.PureOps.Ideal.Laws
public import Idealize.ShloMosaic.Lib.IdealHost

@[expose] public section

noncomputable section

namespace Cert.Proof

open Idealize.ShloMosaic

/-- Equal numerators give equal quotients. -/
theorem div_congr {a b c : EReal} (h : a = b) : Ideal.div a c = Ideal.div b c := by rw [h]

/-- `16.0` -/
theorem c16 : Ideal.ofBits .f32 0x41800000#32 = ((16 : ℝ) : EReal) := by
  simp [Ideal.ofBits, Ideal.ieee, -EReal.coe_mul]; norm_num
/-- `2.0` -/
theorem c2 : Ideal.ofBits .f32 0x40000000#32 = ((2 : ℝ) : EReal) := by
  simp [Ideal.ofBits, Ideal.ieee, -EReal.coe_mul]; norm_num
/-- `-2.0` -/
theorem cm2 : Ideal.ofBits .f32 0xC0000000#32 = ((-2 : ℝ) : EReal) := by
  simp [Ideal.ofBits, Ideal.ieee, -EReal.coe_mul]; norm_num
/-- `524288.0`, the number of neighbour pairs -/
theorem c524288 : Ideal.ofBits .f32 0x49000000#32 = ((524288 : ℝ) : EReal) := by
  simp [Ideal.ofBits, Ideal.ieee, -EReal.coe_mul]; norm_num
/-- `32768.0`, the number of points -/
theorem c32768 : Ideal.ofBits .f32 0x47000000#32 = ((32768 : ℝ) : EReal) := by
  simp [Ideal.ofBits, Ideal.ieee, -EReal.coe_mul]; norm_num
/-- `+∞` in f32 -/
theorem cinf32 : Ideal.ofBits .f32 0x7F800000#32 = ⊤ := by
  simp [Ideal.ofBits, Ideal.ieee]
/-- `-∞` in f32 -/
theorem cninf32 : Ideal.ofBits .f32 0xFF800000#32 = ⊥ := by
  simp [Ideal.ofBits, Ideal.ieee]
/-- `+∞` in bf16 -/
theorem cinf16 : Ideal.ofBits .bf16 0x7F80#16 = ⊤ := by
  simp [Ideal.ofBits, Ideal.ieee]

end Cert.Proof

end
-- ==== Proof.KernelBlock.lean ====
/- What one grid point's payloads compute, at an index. -/
module

public import proofs.«01_k».proof.Proof.Gen.KernelIdeal
public import proofs.«01_k».proof.Proof.Gen.KernelIdeal.Skeleton
public import proofs.«01_k».proof.Proof.Core
public import proofs.«01_k».proof.Proof.Consts
public import Idealize.ShloMosaic.Lib.Pointwise

@[expose] public section

set_option maxRecDepth 16384

noncomputable section

namespace Cert.Proof

open Cert.KernelIdeal Cert.KernelIdeal.Gen
open Idealize.ShloMosaic

/-- The squared distances of a block of points against a cloud's points, as the kernel sums them. -/
def kdist (q : FVec Ideal S128x3 .f32) (kt : FVec Ideal S3x8192 .f32) : FVec Ideal S128x8192 .bf16 :=
  truncf .bf16 (addf (addf (matmul dot_S128x3_S3x8192_S128x8192_1_0_0_1_n_n none
      (mulf q (broadcast S128x3 (Scalar.ofBits .f32 0xC0000000#32))) (shapeCast S3x8192 kt shapeCasts_S3x8192_S3x8192)
      (constant S128x8192 .f32 0x00000000#32))
    (broadcastTo S128x8192 (shapeCast S128x1 (multiReduction .add [1] S128 (mulf q q) 0x00000000#32 reduces_S128x3_S128 (.inl rfl) rfl) shapeCasts_S128_S128x1) broadcasts_S128x1_S128x8192))
    (broadcastTo S128x8192 (shapeCast S1x8192 (multiReduction .add [0] S8192 (mulf (shapeCast S3x8192 kt shapeCasts_S3x8192_S3x8192) (shapeCast S3x8192 kt shapeCasts_S3x8192_S3x8192)) 0x00000000#32 reduces_S3x8192_S8192 (.inl rfl) rfl) shapeCasts_S8192_S1x8192) broadcasts_S1x8192_S128x8192)) bitsLt_bf16_f32

/-- One removal round on a block of rows. -/
def round (x : FVec Ideal S128x8192 .bf16) : FVec Ideal S128x8192 .bf16 :=
  select (cmpf .ole x (broadcastTo S128x8192 (shapeCast S128x1 (multiReduction .minimumf [1] S128 x 0x7F80#16 reduces_S128x8192_S128 (.inr rfl) rfl) shapeCasts_S128_S128x1) broadcasts_S128x1_S128x8192))
    (broadcast S128x8192 (Scalar.ofBits .bf16 0x7F80#16)) x

/-- The 0/1 marks of the removed entries. -/
def marks (x : FVec Ideal S128x8192 .bf16) : FVec Ideal S128x8192 .bf16 :=
  select (cmpf .oeq x (broadcast S128x8192 (Scalar.ofBits .bf16 0x7F80#16)))
    (broadcast S128x8192 (Scalar.ofBits .bf16 0x3F80#16)) (broadcast S128x8192 (Scalar.ofBits .bf16 0x0000#16))

/-- The first three rounds. -/
theorem pay3_eq (q : FVec Ideal S128x3 .f32) (kt : FVec Ideal S3x8192 .f32) :
    k1_pay3 (F := Ideal) q kt = round (round (round (kdist q kt))) := rfl

/-- The next seven rounds. -/
theorem pay4_eq (x : FVec Ideal S128x8192 .bf16) :
    k1_pay4 (F := Ideal) x = round (round (round (round (round (round (round x)))))) := rfl

/-- The last six rounds, the marks and the moments. -/
theorem pay6_eq (x : FVec Ideal S128x8192 .bf16) (w : FVec Ideal S8192x4 .bf16) :
    k1_pay6 (F := Ideal) (k1_pay4 x) (k1_pay5 x) w
      = matmul dot_S128x8192_S8192x4_S128x4_1_0_0_1_n_n none
          (marks (round (round (round (round (round (round (k1_pay4 (F := Ideal) x)))))))) (shapeCast S8192x4 w shapeCasts_S8192x4_S8192x4)
          (constant S128x4 .f32 0x00000000#32) := rfl

/-- A round at an index: the row's round. -/
theorem round_at (x : FVec Ideal S128x8192 .bf16) (i : Fin 128) (j : Fin 8192) :
    round x (ix2 i j) = Core.strip (fun j => x (ix2 i j)) j := by
  pointwise [round]
  rw [cinf16]
  rfl

/-- Rounds at an index: the row's rounds. -/
theorem rounds_at (n : ℕ) (x : FVec Ideal S128x8192 .bf16) (i : Fin 128) (j : Fin 8192) :
    (round^[n] x) (ix2 i j) = (Core.strip^[n] fun j => x (ix2 i j)) j := by
  induction n generalizing j with
  | zero => rfl
  | succ n ih =>
    rw [Function.iterate_succ_apply', Function.iterate_succ_apply', round_at]
    exact congrArg (fun f => Core.strip f j) (funext ih)

/-- The distances at an index. -/
theorem kdist_at (q : FVec Ideal S128x3 .f32) (kt : FVec Ideal S3x8192 .f32) (i : Fin 128) (j : Fin 8192) :
    kdist q kt (ix2 i j) = ((∑ x, q (ix2 i x) * ((-2 : ℝ) : EReal) * kt (ix2 x j)) + ∑ x, q (ix2 i x) * q (ix2 i x))
      + ∑ x, kt (ix2 x j) * kt (ix2 x j) := by
  pointwise [kdist]
  rw [cm2]

/-- The marks at an index. -/
theorem marks_at (x : FVec Ideal S128x8192 .bf16) (i : Fin 128) (j : Fin 8192) :
    marks x (ix2 i j) = if x (ix2 i j) = ⊤ then 1 else 0 := by
  pointwise [marks]
  rw [cinf16]

/-- The moments of all sixteen rounds, from the blocks. -/
def moms (q : FVec Ideal S128x3 .f32) (kt : FVec Ideal S3x8192 .f32) (w : FVec Ideal S8192x4 .bf16) : FVec Ideal S128x4 .f32 :=
  k1_pay6 (F := Ideal) (k1_pay4 (k1_pay3 q kt)) (k1_pay5 (k1_pay3 q kt)) w

/-- A moment at an index: the marked entries' weights summed. -/
theorem moms_at (q : FVec Ideal S128x3 .f32) (kt : FVec Ideal S3x8192 .f32) (w : FVec Ideal S8192x4 .bf16) (i : Fin 128) (k : Fin 4) :
    moms q kt w (ix2 i k)
      = ∑ j, (if (Core.strip^[16] fun j => kdist q kt (ix2 i j)) j = ⊤ then (1 : EReal) else 0) * w (ix2 j k) := by
  have h : moms q kt w = matmul dot_S128x8192_S8192x4_S128x4_1_0_0_1_n_n none
          (marks (round^[16] (kdist q kt))) (shapeCast S8192x4 w shapeCasts_S8192x4_S8192x4)
          (constant S128x4 .f32 0x00000000#32) := by
    rw [Core.iterate16]; unfold moms; rw [pay6_eq, pay4_eq, pay3_eq]
  rw [h]
  pointwise []
  refine Finset.sum_congr rfl fun j _ => ?_
  rw [marks_at, rounds_at]

/-- The local part of one point's contribution, from its blocks. -/
def locPart (q : FVec Ideal S128x3 .f32) (kt : FVec Ideal S3x8192 .f32) (w : FVec Ideal S8192x4 .bf16) (sq : FVec Ideal S128x1 .f32) : EReal :=
  k1_pay11 (F := Ideal) (moms q kt w) (k1_pay7 (F := Ideal) (k1_pay4 (k1_pay3 q kt)) (k1_pay5 (k1_pay3 q kt)) w)
    (k1_pay8 (F := Ideal) (k1_pay4 (k1_pay3 q kt)) (k1_pay5 (k1_pay3 q kt)) w) sq

/-- The local part at the moments. -/
theorem locPart_moms (q : FVec Ideal S128x3 .f32) (kt : FVec Ideal S3x8192 .f32) (w : FVec Ideal S8192x4 .bf16) (sq : FVec Ideal S128x1 .f32) :
    locPart q kt w sq = Ideal.div (∑ r : Fin 128,
      (moms q kt w (ix2 r 0) * sq (ix2 r 0) * sq (ix2 r 0) - ((2 : ℝ) : EReal) * sq (ix2 r 0) * moms q kt w (ix2 r 1) + moms q kt w (ix2 r 2))
        * Ideal.div ((16 : ℝ) : EReal) (moms q kt w (ix2 r 0))) ((524288 : ℝ) : EReal) := by
  have h : locPart q kt w sq = k1_pay11 (F := Ideal) (moms q kt w)
      (extractStridedSlice S128x1 ![0, 0] (moms q kt w) slices_S128x4_o0_0_S128x1)
      (extractStridedSlice S128x1 ![0, 1] (moms q kt w) slices_S128x4_o0_1_S128x1) sq := rfl
  rw [h]
  pointwise [k1_pay11, k1_pay9]
  rw [c524288, c16, c2]
  refine div_congr (Finset.sum_congr rfl fun r _ => ?_)
  exact Fintype.sum_unique _

/-- Where the weights are 1, `s`, `s²` and each row's sixteen nearest are named by `p`, the local part is the sum of
    the squared differences to them, over the number of pairs. -/
theorem locPart_eq (q : FVec Ideal S128x3 .f32) (kt : FVec Ideal S3x8192 .f32) (w : FVec Ideal S8192x4 .bf16) (sq : FVec Ideal S128x1 .f32)
    (s : Fin 8192 → ℝ) (σ : Fin 128 → ℝ) (p : Fin 128 → Fin 17 → Fin 8192)
    (h0 : ∀ j, w (ix2 j 0) = 1) (h1 : ∀ j, w (ix2 j 1) = (s j : EReal)) (h2 : ∀ j, w (ix2 j 2) = (s j : EReal) * (s j : EReal))
    (hs : ∀ r, sq (ix2 r 0) = (σ r : EReal)) (hp : ∀ r, Core.Nearest (fun j => kdist q kt (ix2 r j)) (p r)) :
    locPart q kt w sq = Ideal.div (∑ r : Fin 128, ∑ k : Fin 16,
      ((σ r : EReal) - (s (p r k.castSucc) : ℝ)) * ((σ r : EReal) - (s (p r k.castSucc) : ℝ))) ((524288 : ℝ) : EReal) := by
  rw [locPart_moms]
  refine div_congr (Finset.sum_congr rfl fun r _ => ?_)
  have m0 : moms q kt w (ix2 r 0) = 16 := by
    rw [moms_at, Core.sum_marked (hp r)]
    simp only [h0]
    simp
  have m1 : moms q kt w (ix2 r 1) = ∑ k : Fin 16, ((s (p r k.castSucc) : ℝ) : EReal) := by
    rw [moms_at, Core.sum_marked (hp r)]
    simp only [h1]
  have m2 : moms q kt w (ix2 r 2) = ∑ k : Fin 16, ((s (p r k.castSucc) : ℝ) : EReal) * (s (p r k.castSucc) : ℝ) := by
    rw [moms_at, Core.sum_marked (hp r)]
    simp only [h2]
  rw [m0, m1, m2, hs, ← Core.row_moments (σ r) fun k => s (p r k.castSucc)]
  have hd : Ideal.div ((16 : ℝ) : EReal) 16 = 16 * (16 : EReal)⁻¹ := by
    have h16 : (16 : EReal) ≠ 0 := by norm_num
    unfold Ideal.div
    rw [if_neg h16]
    rfl
  rw [hd]
  rfl

/-- The mean over the features of the doubled sigmoid, against the cloud's maxima. -/
def targetRow (f g : Fin 256 → EReal) : EReal :=
  Ideal.div (∑ c, Ideal.ofBits .f32 0x40000000#32 * Ideal.logistic (Ideal.div (f c - g c) (Ideal.ofBits .f32 0x3DCCCCCD#32)))
    (Ideal.ofBits .f32 0x43800000#32)

/-- The global part of one point's contribution: squared differences of the scores to the targets, over the number
    of points. -/
theorem globPart_eq (sq : FVec Ideal S128x1 .f32) (f : FVec Ideal S128x256 .f32) (g : FVec Ideal S1x1x256 .f32) :
    k1_pay12 (F := Ideal) sq f g = Ideal.div (∑ r : Fin 128,
      (sq (ix2 r 0) - targetRow (fun c => f (ix2 r c)) (fun c => g (ix3 0 0 c)))
        * (sq (ix2 r 0) - targetRow (fun c => f (ix2 r c)) (fun c => g (ix3 0 0 c)))) ((32768 : ℝ) : EReal) := by
  pointwise [k1_pay12, k1_pay9]
  rw [c32768]
  refine div_congr (Finset.sum_congr rfl fun r _ => ?_)
  exact Fintype.sum_unique _

/-- The maxima of a cloud's features, at a feature. -/
theorem gmax_at (f : FVec Ideal S8192x256 .f32) (c : Fin 256) :
    k0_pay1 (F := Ideal) f (ix3 0 0 c) = Finset.univ.fold max ⊥ (fun x => f (ix2 x c)) := by
  pointwise [k0_pay1]
  rw [cninf32]

end Cert.Proof

end
-- ==== Proof.KernelValue.lean ====
/- What the kernel's two output arrays hold after their regions, from the arrays the regions are entered with. -/
module

public import proofs.«01_k».proof.Proof.Gen.KernelIdeal.Frame
public import proofs.«01_k».proof.Proof.KernelBlock
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- Where the first region's blocks lie. -/
theorem idx0 : ∀ t : Fin cfg0.N, win0_0.index t = ![t.val, 0] ∧ win0_1.index t = ![t.val, 0, 0] :=
  (by decide +kernel : ∀ t : Fin grid0.N, _)

/-- Where the second region's blocks lie. -/
theorem idx1 : ∀ t : Fin cfg1.N, win1_0.index t = ![t.val, 0] ∧ win1_1.index t = ![0, t.val / 64] ∧ win1_2.index t = ![t.val, 0]
    ∧ win1_3.index t = ![t.val / 64, 0] ∧ win1_4.index t = ![t.val, 0] ∧ win1_5.index t = ![t.val / 64, 0, 0] ∧ win1_6.index t = ![0, 0] :=
  (by decide +kernel : ∀ t : Fin grid1.N, _)

/-- A cloud's row in the whole array. -/
abbrev cloudRow (b : Fin 4) (x : Fin 8192) : Fin 32768 := ⟨b.val * 8192 + x.val, by omega⟩

/-- The maxima of every cloud's features. -/
def gmaxArr (f : FVec Ideal S32768x256 .f32) : FVec Ideal S4x1x256 .f32 :=
  fun i => Finset.univ.fold max ⊥ fun x : Fin 8192 => f (ix2 (cloudRow (i 0) x) (i 2))

/-- After the first region its output array holds the clouds' maxima. -/
theorem gmax_arr (c : Dev nD) : (dat0 V c).arrAt 1 cfg0.N = gmaxArr (V c main_arg2) := by
  refine (dat0 V c).arrAt_eq_of_covers 1 _ (by decide +kernel) fun t _ y => ?_
  blk_simp
  rw [after0_1]; frame_out
  obtain ⟨a, b, d, rfl⟩ : ∃ (a : Fin 1) (b : Fin 1) (d : Fin 256), y = ix3 a b d := ⟨y 0, y 1, y 2, by ext k; fin_cases k <;> rfl⟩
  obtain rfl : a = 0 := Subsingleton.elim _ _
  obtain rfl : b = 0 := Subsingleton.elim _ _
  refine (gmax_at _ d).trans ?_
  unfold gmaxArr
  have e : (((View.whole main_v0).slice (win0_1.rect t)).emb (ix3 0 0 d) 0 : ℕ) = t.val := by blk_simp [idx0 t]; simp
  blk_point [iblk0, idx0 t]

/-- A block's row in the whole array. -/
abbrev blkRow (t : Fin cfg1.N) (r : Fin 128) : Fin 32768 :=
  ⟨t.val * 128 + r.val, by have : t.val < 256 := lt_of_lt_of_eq t.isLt N_1; omega⟩

/-- The cloud a point's block belongs to. -/
abbrev blkCloud (t : Fin cfg1.N) : Fin 4 :=
  ⟨t.val / 64, by have : t.val < 256 := lt_of_lt_of_eq t.isLt N_1; omega⟩

theorem blk1_0 (c : Dev nD) (t : Fin cfg1.N) (r : Fin 128) (x : Fin 3) :
    (show FVec Ideal S128x3 .f32 from iblk1 V c 0 t) (ix2 r x) = (show FVec Ideal S32768x3 .f32 from V c main_arg1) (ix2 (blkRow t r) x) := by
  blk_point [iblk1, idx1 t]
theorem blk1_1 (c : Dev nD) (t : Fin cfg1.N) (x : Fin 3) (j : Fin 8192) :
    (show FVec Ideal S3x8192 .f32 from iblk1 V c 1 t) (ix2 x j) = (show FVec Ideal S3x32768 .f32 from V c main_v1) (ix2 x (cloudRow (blkCloud t) j)) := by
  blk_point [iblk1, idx1 t]
theorem blk1_2 (c : Dev nD) (t : Fin cfg1.N) (r : Fin 128) :
    (show FVec Ideal S128x1 .f32 from iblk1 V c 2 t) (ix2 r 0) = (show FVec Ideal S32768x1 .f32 from V c main_v2) (ix2 (blkRow t r) 0) := by
  blk_point [iblk1, idx1 t]
theorem blk1_3 (c : Dev nD) (t : Fin cfg1.N) (j : Fin 8192) (k : Fin 4) :
    (show FVec Ideal S8192x4 .bf16 from iblk1 V c 3 t) (ix2 j k) = (show FVec Ideal S32768x4 .bf16 from V c main_v12) (ix2 (cloudRow (blkCloud t) j) k) := by
  blk_point [iblk1, idx1 t]
theorem blk1_4 (c : Dev nD) (t : Fin cfg1.N) (r : Fin 128) (d : Fin 256) :
    (show FVec Ideal S128x256 .f32 from iblk1 V c 4 t) (ix2 r d) = (show FVec Ideal S32768x256 .f32 from V c main_arg2) (ix2 (blkRow t r) d) := by
  blk_point [iblk1, idx1 t]
theorem blk1_5 (c : Dev nD) (t : Fin cfg1.N) (d : Fin 256) :
    (show FVec Ideal S1x1x256 .f32 from iblk1 V c 5 t) (ix3 0 0 d) = (show FVec Ideal S4x1x256 .f32 from V c main_v0) (ix3 (blkCloud t) 0 d) := by
  blk_point [iblk1, idx1 t]

/-- The accumulating payload at its cell. -/
theorem acc_at (a : FVec Ideal S1x1 .f32) (x y : EReal) (j : S1x1.Idx) :
    k1_pay1 (F := Ideal) (k1_pay10 a) x y j = a j + (x + y) := by
  pointwise [k1_pay1, k1_pay10]

/-- The zero fill. -/
theorem zero_at (j : S1x1.Idx) : k1_pay2 (F := Ideal) j = 0 := by
  pointwise [k1_pay2]

/-- One grid point's contribution, from its blocks. -/
def part (c : Dev nD) (t : Fin cfg1.N) : EReal :=
  locPart (iblk1 V c 0 t) (iblk1 V c 1 t) (iblk1 V c 3 t) (iblk1 V c 2 t)
    + k1_pay12 (F := Ideal) (iblk1 V c 2 t) (iblk1 V c 4 t) (iblk1 V c 5 t)

/-- After the second region its one-cell output holds the sum of the points' contributions. -/
theorem out_arr (c : Dev nD) : (dat1 V c).arrAt 6 cfg1.N = fun _ => ∑ t : Fin cfg1.N, part V c t := by
  refine (dat1 V c).arrAt_eq_of_covers 6 _ (by decide +kernel) fun t hf y => ?_
  blk_simp
  rw [after1_6, Pipeline.eq_sum_fin_of_reset_step_apply_of_flush (fun n h => outsAt1 V c n h) 256 (fun _ => 0) (fun t _ => part V c t)
    (fun t h j => by rw [outsAt1_A V c t h]; frame_out; rw [acc_at, zero_at]; rfl)
    (fun t h j => by rw [outsAt1_B V c t h]; frame_out; rw [acc_at]; rfl)
    t ((flush1_6 t).mp hf) _, zero_add]
  have hN : cfg1.N = 256 := N_1
  have ht : t.val < 256 := lt_of_lt_of_eq t.isLt hN
  show (_ : EReal) = _
  refine Fintype.sum_equiv (finCongr hN.symm) _ _ fun s => ?_
  congr 1
  ext
  simp only [finCongr_apply, Fin.val_cast]
  omega

end Cert.Proof

end
-- ==== Proof.KernelResult.lean ====
/- The kernel's result as a function of its arguments. -/
module

public import proofs.«01_k».proof.Proof.KernelValue
public import Idealize.ShloMosaic.Lib.Claim
public import Idealize.ShloMosaic.Lib.StableHlo.ReadAt
public import Idealize.ShloMosaic.Lib.Tactic.CleanTypes

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg)

/-- Features are untouched when the second region begins. -/
theorem V2_arg1 (c : Dev nD) : V2 m ρ c main_arg1 = m ((c : Thread nD τ).loc main_arg1) := W2_args m ρ c main_arg1 (by decide)
theorem V2_arg2 (c : Dev nD) : V2 m ρ c main_arg2 = m ((c : Thread nD τ).loc main_arg2) := W2_args m ρ c main_arg2 (by decide)
theorem V2_v0 (c : Dev nD) : V2 m ρ c main_v0 = gmaxArr (m ((c : Thread nD τ).loc main_arg2)) :=
  (W2_of m ρ c main_v0 (by decide)).trans ((W1_arr m ρ c 1).trans (gmax_arr (V0 m ρ) c))
/-- The second region reads the coordinates transposed. -/
theorem V2_v1 (c : Dev nD) (x : Fin 3) (j : Fin 32768) :
    (show FVec Ideal S3x32768 .f32 from V2 m ρ c main_v1) (ix2 x j) = (show FVec Ideal S32768x3 .f32 from m ((c : Thread nD τ).loc main_arg1)) (ix2 j x) := by
  have h : W1 m ρ c (Proc.devRef .tc main_arg1) = m ((c : Thread nD τ).loc main_arg1) := W1_args m ρ c main_arg1 (by decide)
  show StableHlo.after hostOps1 (W1 m ρ c) _ _ = _
  after_results
  rw [h]
  clean_types
  pointwise []

/-- The scores as a column. -/
theorem V2_v2 (c : Dev nD) (j : Fin 32768) :
    (show FVec Ideal S32768x1 .f32 from V2 m ρ c main_v2) (ix2 j 0) = (show FVec Ideal S32768 .f32 from m ((c : Thread nD τ).loc main_arg0)) (ix1 j) := by
  have h : W1 m ρ c (Proc.devRef .tc main_arg0) = m ((c : Thread nD τ).loc main_arg0) := W1_args m ρ c main_arg0 (by decide)
  show StableHlo.after hostOps1 (W1 m ρ c) _ _ = _
  after_results
  rw [h]
  clean_types
  pointwise []

/-- What a four-column concatenation reads in each of its first three columns. -/
theorem concat4 (a b d e : FVec Ideal S32768x1 .f32) (j : Fin 32768) :
    (concatenate S32768x4 1 [⟨S32768x1, a⟩, ⟨S32768x1, b⟩, ⟨S32768x1, d⟩, ⟨S32768x1, e⟩] concatenates_S32768x1_S32768x1_S32768x1_S32768x1_S32768x4_d1 (ix2 j 0) = a (ix2 j 0))
    ∧ (concatenate S32768x4 1 [⟨S32768x1, a⟩, ⟨S32768x1, b⟩, ⟨S32768x1, d⟩, ⟨S32768x1, e⟩] concatenates_S32768x1_S32768x1_S32768x1_S32768x1_S32768x4_d1 (ix2 j 1) = b (ix2 j 0))
    ∧ (concatenate S32768x4 1 [⟨S32768x1, a⟩, ⟨S32768x1, b⟩, ⟨S32768x1, d⟩, ⟨S32768x1, e⟩] concatenates_S32768x1_S32768x1_S32768x1_S32768x1_S32768x4_d1 (ix2 j 2) = d (ix2 j 0)) := by
  refine ⟨?_, ?_, ?_⟩
  · pointwise []
  · pointwise []
  · pointwise []

/-- The moments' operand is the concatenation of four columns. -/
theorem V2_v12_eq (c : Dev nD) :
    V2 m ρ c main_v12 =
      concatenate S32768x4 1 [⟨S32768x1, (V2 m ρ c main_v7 : FVec Ideal S32768x1 .f32)⟩, ⟨S32768x1, (V2 m ρ c main_v8 : FVec Ideal S32768x1 .f32)⟩, ⟨S32768x1, (V2 m ρ c main_v9 : FVec Ideal S32768x1 .f32)⟩, ⟨S32768x1, (V2 m ρ c main_v10 : FVec Ideal S32768x1 .f32)⟩] concatenates_S32768x1_S32768x1_S32768x1_S32768x1_S32768x4_d1 := by
  have e : ∀ r, V2 m ρ c r = StableHlo.after hostOps1 (W1 m ρ c) (Proc.devRef .tc r) := fun _ => rfl
  simp only [e]
  after_results
  rfl

/-- Column 0 of the moments' operand. -/
theorem V2_v12_0 (c : Dev nD) (j : Fin 32768) :
    (show FVec Ideal S32768x4 .bf16 from V2 m ρ c main_v12) (ix2 j 0) = 1 := by
  have h : W1 m ρ c (Proc.devRef .tc main_arg0) = m ((c : Thread nD τ).loc main_arg0) := W1_args m ρ c main_arg0 (by decide)
  refine (congrFun (V2_v12_eq m ρ c) _).trans (((concat4 _ _ _ _ j).1).trans ?_)
  show StableHlo.after hostOps1 (W1 m ρ c) _ _ = _
  after_results
  clean_types
  pointwise []

/-- Column 1 of the moments' operand. -/
theorem V2_v12_1 (c : Dev nD) (j : Fin 32768) :
    (show FVec Ideal S32768x4 .bf16 from V2 m ρ c main_v12) (ix2 j 1) = (show FVec Ideal S32768 .f32 from m ((c : Thread nD τ).loc main_arg0)) (ix1 j) := by
  have h : W1 m ρ c (Proc.devRef .tc main_arg0) = m ((c : Thread nD τ).loc main_arg0) := W1_args m ρ c main_arg0 (by decide)
  refine (congrFun (V2_v12_eq m ρ c) _).trans (((concat4 _ _ _ _ j).2.1).trans ?_)
  show StableHlo.after hostOps1 (W1 m ρ c) _ _ = _
  after_results
  rw [h]
  clean_types
  pointwise []

/-- Column 2 of the moments' operand. -/
theorem V2_v12_2 (c : Dev nD) (j : Fin 32768) :
    (show FVec Ideal S32768x4 .bf16 from V2 m ρ c main_v12) (ix2 j 2) = (show FVec Ideal S32768 .f32 from m ((c : Thread nD τ).loc main_arg0)) (ix1 j) * (show FVec Ideal S32768 .f32 from m ((c : Thread nD τ).loc main_arg0)) (ix1 j) := by
  have h : W1 m ρ c (Proc.devRef .tc main_arg0) = m ((c : Thread nD τ).loc main_arg0) := W1_args m ρ c main_arg0 (by decide)
  refine (congrFun (V2_v12_eq m ρ c) _).trans (((concat4 _ _ _ _ j).2.2).trans ?_)
  show StableHlo.after hostOps1 (W1 m ρ c) _ _ = _
  after_results
  rw [h]
  clean_types
  pointwise []

/-- The kernel's result: the blocks' parts, added up. -/
theorem W4_v14 (c : Dev nD) : W4 m ρ c (Proc.devRef .tc main_v14) = fun _ => ∑ t : Fin cfg1.N, part (V2 m ρ) c t := by
  have h : W3 m ρ c (Proc.devRef .tc main_v13) = fun _ => ∑ t : Fin cfg1.N, part (V2 m ρ) c t :=
    (W3_arr m ρ c 6).trans (out_arr (V2 m ρ) c)
  show StableHlo.after hostOps2 (W3 m ρ c) _ = _
  after_results
  rw [h]
  rfl

end Cert.Proof

end
-- ==== Proof.TopK.lean ====
/- What the 16 (and the 17) largest entries of a row are, by position: the first entries of one sorted order. -/
module

public import Idealize.ShloMosaic.Lib.Pointwise
public import Idealize.ShloMosaic.Lib.SortFacts
public import Idealize.ShloMosaic.Lib.StableHlo
public import proofs.«01_k».proof.Proof.Core

@[expose] public section

noncomputable section

namespace Cert.Proof

open Idealize.ShloMosaic

/-- The positions of a family, largest value first. -/
def order {n : ℕ} (f : Fin n → EReal) : Fin n → Fin n :=
  sortedFrom fun k k' => FloatOps.cmpfTotal (F := Ideal) (φ := .f32) .gt (f k) (f k') == 1#1

/-- The order's comparison is the strict order of the values. -/
theorem before_iff (a b : EReal) : (FloatOps.cmpfTotal (F := Ideal) (φ := .f32) .gt a b == 1#1) = decide (b < a) := by
  by_cases h : b < a
  · simp [FloatOps.cmpfTotal, Ideal.cmpTotal, Ideal.cmp, CmpDirection.ordered, h]
  · simp [FloatOps.cmpfTotal, Ideal.cmpTotal, Ideal.cmp, CmpDirection.ordered, h]

theorem order_injective {n : ℕ} (f : Fin n → EReal) : Function.Injective (order f) := sortedFrom_injective _
theorem order_surjective {n : ℕ} (f : Fin n → EReal) : Function.Surjective (order f) := sortedFrom_surjective _

/-- Values do not increase along the order. -/
theorem order_le {n : ℕ} (f : Fin n → EReal) (i j : Fin n) (h : i < j) : f (order f j) ≤ f (order f i) := by
  have e : (fun k k' => FloatOps.cmpfTotal (F := Ideal) (φ := .f32) .gt (f k) (f k') == 1#1) = fun k k' => decide (f k' < f k) := by
    funext k k'; exact before_iff _ _
  have := sortedFrom_noInversion (fun k k' => decide (f k' < f k)) (fun k k' => decide (f k' < f k))
    (fun a b hab => by simp only [decide_eq_true_eq, decide_eq_false_iff_not, not_lt] at *; exact hab.le)
    (fun a b hab => hab)
    (fun a b c hab hbc => by simp only [decide_eq_false_iff_not, not_lt] at *; exact hab.trans hbc) i j h
  unfold order
  rw [e]
  simpa using this

abbrev Sq : Shape := ⟨2, ![8192, 8192]⟩
abbrev S16 : Shape := ⟨2, ![8192, 16]⟩
abbrev S17 : Shape := ⟨2, ![8192, 17]⟩

/-- A position moved along its row. -/
theorem along_row (i a k : Fin 8192) : (ix2 i a : Sq.Idx).along (1 : Fin 2) k = ix2 i k := by
  funext x
  fin_cases x <;> rfl

/-- The values of the 17 largest entries of row `i`. -/
theorem topK17_val (y : FVec Ideal Sq .f32) (h : Sq.Slices (fun _ => 0) S17) (i : Fin 8192) (k : Fin 17) :
    (Host.topK S17 1 (FloatOps.cmpfTotal (F := Ideal) (φ := .f32) .gt) y h).1 (ix2 i k)
      = y (ix2 i (order (fun j => y (ix2 i j)) ⟨k.val, by omega⟩)) := by
  unfold Host.topK Host.sort2
  pointwise []
  simp only [along_row]
  rfl

/-- The positions of the 16 largest entries of row `i`. -/
theorem topK16_idx (y : FVec Ideal Sq .f32) (h : Sq.Slices (fun _ => 0) S16) (i : Fin 8192) (k : Fin 16) :
    (Host.topK S16 1 (FloatOps.cmpfTotal (F := Ideal) (φ := .f32) .gt) y h).2 (ix2 i k)
      = BitVec.ofNat 32 (order (fun j => y (ix2 i j)) ⟨k.val, by omega⟩).val := by
  unfold Host.topK Host.sort2
  pointwise []
  simp only [along_row]
  rfl

/-- Where the 17 largest values of `-d` strictly decrease and `d` stays below `⊤`, the order names the nearest. -/
theorem nearest_of_order {d : Fin 8192 → EReal} (hd : ∀ j, d j < ⊤)
    (hs : ∀ k : Fin 16, -d (order (fun j => -d j) ⟨k.val + 1, by omega⟩) < -d (order (fun j => -d j) ⟨k.val, by omega⟩)) :
    Core.Nearest d fun k => order (fun j => -d j) ⟨k.val, by omega⟩ where
  mono := by
    refine Fin.strictMono_iff_lt_succ.mpr fun k => ?_
    exact EReal.neg_lt_neg_iff.mp (hs k)
  rest := by
    intro j hj
    obtain ⟨x, rfl⟩ := order_surjective (fun j => -d j) j
    have hx : 16 < x.val := by
      by_contra hc
      exact hj ⟨x.val, by omega⟩ rfl
    exact EReal.neg_le_neg_iff.mp (order_le (fun j => -d j) ⟨16, by omega⟩ x (by simpa [Fin.lt_def] using hx))
  fin := hd

end Cert.Proof

end
-- ==== Proof.RefRead.lean ====
/- The reference's neighbours and their scores, read at an index. -/
module

public import proofs.«01_k».proof.Proof.Gen.ReferenceIdeal.Run
public import Idealize.ShloMosaic.Lib.Pointwise
public import Idealize.ShloMosaic.Lib.Routing.OpsSet
public import Idealize.ShloMosaic.Lib.Tactic.CleanTypes
public import proofs.«01_k».proof.Proof.TopK
public import proofs.«01_k».proof.Proof.Consts

@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.StableHlo

/-- The scores taken at a matrix of row numbers. -/
theorem take_scores (x : FVec Ideal S32768 .f32) (idx : IVec S32768x16x1 32) (i : Fin 32768) (k : Fin 16) (b : Fin 32768)
    (hb : idx (ix3 i k 0) = BitVec.ofNat 32 b.val) :
    Host.gather gather_S32768_S32768x16x1_S32768x16_n_0_n_n_0_2_1 x idx (ix2 i k) = x (ix1 b) := by
  unfold Host.gather
  refine congrArg x (funext fun a => Fin.ext ?_)
  obtain rfl : a = (0 : Fin 1) := Subsingleton.elim _ _
  have hs : ∀ h, gather_S32768_S32768x16x1_S32768x16_n_0_n_n_0_2_1.siIdx (ix2 i k) ⟨0, h⟩ = ix3 i k 0 := by
    intro h
    funext c
    fin_cases c <;> rfl
  have h0 : gather_S32768_S32768x16x1_S32768x16_n_0_n_n_0_2_1.start (ix2 i k) idx 0 = min (idx (ix3 i k 0)).toInt.toNat 32767 := by
    show min (idx (gather_S32768_S32768x16x1_S32768x16_n_0_n_n_0_2_1.siIdx (ix2 i k) ⟨0, _⟩)).toInt.toNat _ = _
    exact congrArg (fun q => min (idx q).toInt.toNat 32767) (hs _)
  show gather_S32768_S32768x16x1_S32768x16_n_0_n_n_0_2_1.start (ix2 i k) idx 0 + 0 + 0 = b.val
  rw [h0, hb, StableHlo.Predicate.toInt_ofNat_small _ (by omega)]
  omega

/-- Clipping a row number to the array does nothing. -/
theorem clip_row (n b : ℕ) (hn : n < 8192) (hb : b < 4) :
    IntOp.minsi (32767#32) (IntOp.maxsi (0#32) (IntOp.addi (BitVec.ofNat 32 n) (BitVec.ofNat 32 (b * 8192)))) = BitVec.ofNat 32 (b * 8192 + n) := by
  have e : IntOp.addi (BitVec.ofNat 32 n) (BitVec.ofNat 32 (b * 8192)) = BitVec.ofNat 32 (b * 8192 + n) := by
    show BitVec.ofNat 32 n + BitVec.ofNat 32 (b * 8192) = _
    rw [← BitVec.ofNat_add, Nat.add_comm]
  have t : (BitVec.ofNat 32 (b * 8192 + n)).toInt = ((b * 8192 + n : ℕ) : ℤ) := StableHlo.Predicate.toInt_ofNat_small _ (by omega)
  rw [e]
  unfold IntOp.minsi IntOp.maxsi
  have z : ¬ ((b : ℤ) * 8192 + (n : ℤ) < 0) := by omega
  have u : ¬ (32767 < (b : ℤ) * 8192 + (n : ℤ)) := by omega
  simp [BitVec.slt, t, z, u]

/-- A row number is not negative, so indexing by it wraps nothing. -/
theorem wrap_row (n : ℕ) (w : BitVec 32) (hn : n < 32768) :
    Scalar.select (IntOp.cmpi .slt (BitVec.ofNat 32 n) 0#32) (IntOp.addi (BitVec.ofNat 32 n) w) (BitVec.ofNat 32 n) = BitVec.ofNat 32 n := by
  unfold Scalar.select
  have t : (BitVec.ofNat 32 n).toInt = (n : ℤ) := StableHlo.Predicate.toInt_ofNat_small _ (by omega)
  rw [if_neg]
  have z : ¬ ((n : ℤ) < 0) := by omega
  simp [IntOp.cmpi, BitVec.slt, t, z]

/-- The squared distance of two points of a cloud. -/
def rdist (X : Fin 8192 → Fin 3 → EReal) (i j : Fin 8192) : EReal :=
  (∑ x, X i x * X i x + ∑ x, X j x * X j x) - ((2 : ℝ) : EReal) * ∑ x, X i x * X j x

/-- A cloud's row in the whole array. -/
abbrev row (b : Fin 4) (x : Fin 8192) : Fin 32768 := ⟨b.val * 8192 + x.val, by omega⟩

/-- A cloud's coordinates. -/
def cloud (X : FVec Ideal S32768x3 .f32) (b : Fin 4) : Fin 8192 → Fin 3 → EReal :=
  fun i x => X (ix2 (row b i) x)

/-- The points of a cloud, nearest to point `i` first: the first 17. -/
def near (X : Fin 8192 → Fin 3 → EReal) (i : Fin 8192) (k : Fin 17) : Fin 8192 := order (fun j => -rdist X i j) ⟨k.val, by omega⟩

variable (V0 : Valuation τ sig (Elt Ideal))

/-! The negated distances of each cloud. -/
theorem v13_at (i j : Fin 8192) :
    (show FVec Ideal S8192x8192 .f32 from res_main_v13 V0) (ix2 i j) = -rdist (cloud (V0 (Proc.devRef .tc main_arg1)) 0) i j := by
  unfold res_main_v13 res_main_v2 res_main_v0
  pointwise []
  rw [c2]
  have e : cloud (V0 (Proc.devRef .tc main_arg1)) 0 = fun i x => (show FVec Ideal S32768x3 .f32 from V0 (Proc.devRef .tc main_arg1)) (ix2 ⟨i.val, by omega⟩ x) := by
    funext i x
    exact congrArg (fun r : Fin 32768 => (show FVec Ideal S32768x3 .f32 from V0 (Proc.devRef .tc main_arg1)) (ix2 r x)) (Fin.ext (by simp))
  rw [e]
  rfl

theorem v29_at (i j : Fin 8192) :
    (show FVec Ideal S8192x8192 .f32 from res_main_v29 V0) (ix2 i j) = -rdist (cloud (V0 (Proc.devRef .tc main_arg1)) 1) i j := by
  unfold res_main_v29 res_main_v18 res_main_v16
  pointwise []
  rw [c2]
  rfl

theorem v45_at (i j : Fin 8192) :
    (show FVec Ideal S8192x8192 .f32 from res_main_v45 V0) (ix2 i j) = -rdist (cloud (V0 (Proc.devRef .tc main_arg1)) 2) i j := by
  unfold res_main_v45 res_main_v34 res_main_v32
  pointwise []
  rw [c2]
  rfl

theorem v61_at (i j : Fin 8192) :
    (show FVec Ideal S8192x8192 .f32 from res_main_v61 V0) (ix2 i j) = -rdist (cloud (V0 (Proc.devRef .tc main_arg1)) 3) i j := by
  unfold res_main_v61 res_main_v50 res_main_v48
  pointwise []
  rw [c2]
  rfl
/-- The reference's neighbours of a point of cloud 0. -/
theorem idx_0 (i : Fin 8192) (k : Fin 16) :
    (Host.topK S8192x16 1 (FloatOps.cmpfTotal (F := Ideal) (φ := .f32) .gt) (res_main_v13 V0) sliceFits_S8192x8192_S8192x16).2 (ix2 i k)
      = BitVec.ofNat 32 (near (cloud (V0 (Proc.devRef .tc main_arg1)) 0) i k.castSucc).val := by
  refine (topK16_idx (res_main_v13 V0) _ i k).trans ?_
  rw [show (fun j => (res_main_v13 V0 : FVec Ideal S8192x8192 .f32) (ix2 i j)) = fun j => -rdist (cloud (V0 (Proc.devRef .tc main_arg1)) 0) i j from
    funext fun j => v13_at V0 i j]
  rfl

/-- The reference's neighbours of a point of cloud 1. -/
theorem idx_1 (i : Fin 8192) (k : Fin 16) :
    (Host.topK S8192x16 1 (FloatOps.cmpfTotal (F := Ideal) (φ := .f32) .gt) (res_main_v29 V0) sliceFits_S8192x8192_S8192x16).2 (ix2 i k)
      = BitVec.ofNat 32 (near (cloud (V0 (Proc.devRef .tc main_arg1)) 1) i k.castSucc).val := by
  refine (topK16_idx (res_main_v29 V0) _ i k).trans ?_
  rw [show (fun j => (res_main_v29 V0 : FVec Ideal S8192x8192 .f32) (ix2 i j)) = fun j => -rdist (cloud (V0 (Proc.devRef .tc main_arg1)) 1) i j from
    funext fun j => v29_at V0 i j]
  rfl

/-- The reference's neighbours of a point of cloud 2. -/
theorem idx_2 (i : Fin 8192) (k : Fin 16) :
    (Host.topK S8192x16 1 (FloatOps.cmpfTotal (F := Ideal) (φ := .f32) .gt) (res_main_v45 V0) sliceFits_S8192x8192_S8192x16).2 (ix2 i k)
      = BitVec.ofNat 32 (near (cloud (V0 (Proc.devRef .tc main_arg1)) 2) i k.castSucc).val := by
  refine (topK16_idx (res_main_v45 V0) _ i k).trans ?_
  rw [show (fun j => (res_main_v45 V0 : FVec Ideal S8192x8192 .f32) (ix2 i j)) = fun j => -rdist (cloud (V0 (Proc.devRef .tc main_arg1)) 2) i j from
    funext fun j => v45_at V0 i j]
  rfl

/-- The reference's neighbours of a point of cloud 3. -/
theorem idx_3 (i : Fin 8192) (k : Fin 16) :
    (Host.topK S8192x16 1 (FloatOps.cmpfTotal (F := Ideal) (φ := .f32) .gt) (res_main_v61 V0) sliceFits_S8192x8192_S8192x16).2 (ix2 i k)
      = BitVec.ofNat 32 (near (cloud (V0 (Proc.devRef .tc main_arg1)) 3) i k.castSucc).val := by
  refine (topK16_idx (res_main_v61 V0) _ i k).trans ?_
  rw [show (fun j => (res_main_v61 V0 : FVec Ideal S8192x8192 .f32) (ix2 i j)) = fun j => -rdist (cloud (V0 (Proc.devRef .tc main_arg1)) 3) i j from
    funext fun j => v61_at V0 i j]
  rfl

/-- Row `i` of block 0 of four stacked blocks. -/
theorem stack_0 (A0 A1 A2 A3 : IVec S8192x16 32) (i : Fin 8192) (k : Fin 16) :
    concatenate S32768x16 0 [⟨S8192x16, A0⟩, ⟨S8192x16, A1⟩, ⟨S8192x16, A2⟩, ⟨S8192x16, A3⟩] concatenates_S8192x16_S8192x16_S8192x16_S8192x16_S32768x16_d0
      (ix2 (row 0 i) k) = A0 (ix2 i k) := by
  pointwise []

/-- Row `i` of block 1 of four stacked blocks. -/
theorem stack_1 (A0 A1 A2 A3 : IVec S8192x16 32) (i : Fin 8192) (k : Fin 16) :
    concatenate S32768x16 0 [⟨S8192x16, A0⟩, ⟨S8192x16, A1⟩, ⟨S8192x16, A2⟩, ⟨S8192x16, A3⟩] concatenates_S8192x16_S8192x16_S8192x16_S8192x16_S32768x16_d0
      (ix2 (row 1 i) k) = A1 (ix2 i k) := by
  pointwise []

/-- Row `i` of block 2 of four stacked blocks. -/
theorem stack_2 (A0 A1 A2 A3 : IVec S8192x16 32) (i : Fin 8192) (k : Fin 16) :
    concatenate S32768x16 0 [⟨S8192x16, A0⟩, ⟨S8192x16, A1⟩, ⟨S8192x16, A2⟩, ⟨S8192x16, A3⟩] concatenates_S8192x16_S8192x16_S8192x16_S8192x16_S32768x16_d0
      (ix2 (row 2 i) k) = A2 (ix2 i k) := by
  pointwise []
  exact (dif_neg (show ¬ (2 * 8192 + i.val < 8192) by omega)).trans ((dif_neg (show ¬ (2 * 8192 + i.val - 8192 < 8192) by omega)).trans ((dif_pos (show (2 * 8192 + i.val - 8192 - 8192 < 8192) by omega)).trans (congrArg (fun r : Fin 8192 => A2 (ix2 r k)) (Fin.ext (show 2 * 8192 + i.val - 8192 - 8192 = i.val by omega)))))

/-- Row `i` of block 3 of four stacked blocks. -/
theorem stack_3 (A0 A1 A2 A3 : IVec S8192x16 32) (i : Fin 8192) (k : Fin 16) :
    concatenate S32768x16 0 [⟨S8192x16, A0⟩, ⟨S8192x16, A1⟩, ⟨S8192x16, A2⟩, ⟨S8192x16, A3⟩] concatenates_S8192x16_S8192x16_S8192x16_S8192x16_S32768x16_d0
      (ix2 (row 3 i) k) = A3 (ix2 i k) := by
  pointwise []
  exact (dif_neg (show ¬ (3 * 8192 + i.val < 8192) by omega)).trans ((dif_neg (show ¬ (3 * 8192 + i.val - 8192 < 8192) by omega)).trans ((dif_neg (show ¬ (3 * 8192 + i.val - 8192 - 8192 < 8192) by omega)).trans (congrArg (fun r : Fin 8192 => A3 (ix2 r k)) (Fin.ext (show 3 * 8192 + i.val - 8192 - 8192 - 8192 = i.val by omega)))))

/-- The matrix of row numbers the reference reads neighbours' scores at. -/
theorem v65_at (b : Fin 4) (i : Fin 8192) (k : Fin 16) :
    (show IVec S32768x16 32 from res_main_v65 V0) (ix2 (row b i) k)
      = BitVec.ofNat 32 (row b (near (cloud (V0 (Proc.devRef .tc main_arg1)) b) i k.castSucc)).val := by
  obtain rfl | rfl | rfl | rfl : b = 0 ∨ b = 1 ∨ b = 2 ∨ b = 3 := by omega
  · refine (congrArg (fun v => IntOp.minsi 32767#32 (IntOp.maxsi 0#32 v)) ((stack_0 _ _ _ _ i k).trans
      (congrArg (fun v => IntOp.addi v (BitVec.ofNat 32 (0 * 8192))) (idx_0 V0 i k)))).trans ?_
    exact clip_row _ 0 (near _ i k.castSucc).isLt (by omega)
  · refine (congrArg (fun v => IntOp.minsi 32767#32 (IntOp.maxsi 0#32 v)) ((stack_1 _ _ _ _ i k).trans
      (congrArg (fun v => IntOp.addi v (BitVec.ofNat 32 (1 * 8192))) (idx_1 V0 i k)))).trans ?_
    exact clip_row _ 1 (near _ i k.castSucc).isLt (by omega)
  · refine (congrArg (fun v => IntOp.minsi 32767#32 (IntOp.maxsi 0#32 v)) ((stack_2 _ _ _ _ i k).trans
      (congrArg (fun v => IntOp.addi v (BitVec.ofNat 32 (2 * 8192))) (idx_2 V0 i k)))).trans ?_
    exact clip_row _ 2 (near _ i k.castSucc).isLt (by omega)
  · refine (congrArg (fun v => IntOp.minsi 32767#32 (IntOp.maxsi 0#32 v)) ((stack_3 _ _ _ _ i k).trans
      (congrArg (fun v => IntOp.addi v (BitVec.ofNat 32 (3 * 8192))) (idx_3 V0 i k)))).trans ?_
    exact clip_row _ 3 (near _ i k.castSucc).isLt (by omega)

/-- A neighbour's difference of scores, where the neighbour's row number is known. -/
theorem v75_row (r : Fin 32768) (k : Fin 16) (n : Fin 32768)
    (h : (show IVec S32768x16 32 from res_main_v65 V0) (ix2 r k) = BitVec.ofNat 32 n.val) :
    (show FVec Ideal S32768x16 .f32 from res_main_v75 V0) (ix2 r k)
      = (show FVec Ideal S32768 .f32 from V0 (Proc.devRef .tc main_arg0)) (ix1 r)
        - (show FVec Ideal S32768 .f32 from V0 (Proc.devRef .tc main_arg0)) (ix1 n) := by
  unfold res_main_v75
  pointwise []
  refine congrArg₂ (fun a b : EReal => a - b) rfl (take_scores _ _ r k n ?_)
  pointwise []
  have h' : res_main_v65 V0 (ix2 r k) = BitVec.ofNat 32 n.val := h
  rw [h']
  exact wrap_row n.val _ n.isLt

/-- A neighbour's difference of scores. -/
theorem v75_at (b : Fin 4) (i : Fin 8192) (k : Fin 16) :
    (show FVec Ideal S32768x16 .f32 from res_main_v75 V0) (ix2 (row b i) k)
      = (show FVec Ideal S32768 .f32 from V0 (Proc.devRef .tc main_arg0)) (ix1 (row b i))
        - (show FVec Ideal S32768 .f32 from V0 (Proc.devRef .tc main_arg0)) (ix1 (row b (near (cloud (V0 (Proc.devRef .tc main_arg1)) b) i k.castSucc))) :=
  v75_row V0 (row b i) k _ (v65_at V0 b i k)

end Cert.Proof

end
-- ==== Proof.RefTarget.lean ====
/- The reference's targets, read at a point. -/
module

public import proofs.«01_k».proof.Proof.Gen.ReferenceIdeal.Run
public import Idealize.ShloMosaic.Lib.Pointwise
public import Idealize.ShloMosaic.Lib.Pointwise.IndexBridge
public import Idealize.ShloMosaic.Lib.Routing.OpsSet
public import proofs.«01_k».proof.Proof.RefRead
public import proofs.«01_k».proof.Proof.KernelBlock

@[expose] public section

set_option maxRecDepth 16384

noncomputable section

namespace Cert.Proof

open Cert.ReferenceIdeal Cert.ReferenceIdeal.Gen Cert.ReferenceIdeal.Value
open Idealize.ShloMosaic Idealize.ShloMosaic.TcCoe Idealize.ShloMosaic.StableHlo

/-- The maximum of a feature over the points whose cloud number is `w`. -/
def maxOver (w : BitVec 32) (ids : IVec S32768 32) (f : FVec Ideal S32768x256 .f32) (c : Fin 256) : EReal :=
  Finset.univ.fold max ⊥ fun x : Fin 32768 => Scalar.select (IntOp.cmpi .eq (ids (ix1 x)) w) (f (ix2 x c)) ⊥

/-- The same as an array of one row. -/
def maxRow (w : BitVec 32) (ids : IVec S32768 32) (f : FVec Ideal S32768x256 .f32) : FVec Ideal S1x256 .f32 :=
  broadcastInDim S1x256 ![1] bcast_S256_S1x256_1 (Host.reduce FloatOps.maximumf (select (broadcastInDim S32768x256 ![0, 1] bcast_S32768x1_S32768x256_0_1 (broadcastInDim S32768x1 ![0] bcast_S32768_S32768x1_0 (cmpi .eq ids (broadcastInDim S32768 ![] bcast_S_S32768 (constantI S_ 32 w))))) f (broadcastInDim S32768x256 ![] bcast_S_S32768x256 (id (constant (F := Ideal) S_ .f32 0xFF800000#32)))) (constant S_ .f32 0xFF800000#32) reducesTo_S32768x256_S256_d0 h_S_)

/-- That row, read. -/
theorem maxRow_at (w : BitVec 32) (ids : IVec S32768 32) (f : FVec Ideal S32768x256 .f32) (c : Fin 256) :
    maxRow w ids f (ix2 0 c) = maxOver w ids f c := by
  unfold maxRow
  pointwise []
  show Finset.fold max (Ideal.ofBits .f32 0xFF800000#32)
    (fun x => Scalar.select (IntOp.cmpi .eq (ids (ix1 x)) w) (f (ix2 x c)) (Ideal.ofBits .f32 0xFF800000#32)) Finset.univ = _
  rw [cninf32]
  rfl

/-- Four rows stacked. -/
theorem stack4 (A : Fin 4 → FVec Ideal S1x256 .f32) (b : Fin 4) (c : Fin 256) :
    concatenate S4x256 0 [⟨S1x256, A 0⟩, ⟨S1x256, A 1⟩, ⟨S1x256, A 2⟩, ⟨S1x256, A 3⟩] concatenates_S1x256_S1x256_S1x256_S1x256_S4x256_d0
      (ix2 b c) = A b (ix2 0 c) := by
  obtain rfl | rfl | rfl | rfl : b = 0 ∨ b = 1 ∨ b = 2 ∨ b = 3 := by omega
  all_goals pointwise []

/-- A row of a four-row table taken at every point. -/
theorem take_row (G : FVec Ideal S4x256 .f32) (idx : IVec S32768x1 32) (r : Fin 32768) (c : Fin 256) (b : Fin 4)
    (hb : idx (ix2 r 0) = BitVec.ofNat 32 b.val) :
    Host.gather gather_S4x256_S32768x1_S32768x256_1_0_n_n_0_1_1256 G idx (ix2 r c) = G (ix2 b c) := by
  rw [ix2_eq_valueIdx, ix2_eq_valueIdx]
  rw [ix2_eq_valueIdx] at hb
  exact Routing.gather_row gather_S4x256_S32768x1_S32768x256_1_0_n_n_0_1_1256 rfl rfl rfl rfl rfl G idx r c b hb (by norm_num)

/-- The logistic of a scaled difference, written out, depends on the second number only through its value. -/
theorem target_congr (f g g' a : EReal) (h : g = g') :
    Ideal.div 1 (1 + Ideal.exp (-Ideal.div (f - g) a)) = Ideal.logistic (Ideal.div (f - g') a) := by
  subst h; rfl

/-- The difference of a point's score and its target, where the point's cloud number is known. -/
theorem v127_at (V0 : Valuation τ sig (Elt Ideal)) (r : Fin 32768) (b : Fin 4)
    (hb : (show IVec S32768 32 from V0 (Proc.devRef .tc main_arg3)) (ix1 r) = BitVec.ofNat 32 b.val) :
    (show FVec Ideal S32768x1 .f32 from res_main_v127 V0) (ix2 r 0)
      = (show FVec Ideal S32768 .f32 from V0 (Proc.devRef .tc main_arg0)) (ix1 r)
        - targetRow (fun c => (show FVec Ideal S32768x256 .f32 from V0 (Proc.devRef .tc main_arg2)) (ix2 r c))
            (fun c => maxOver (BitVec.ofNat 32 b.val) (V0 (Proc.devRef .tc main_arg3)) (V0 (Proc.devRef .tc main_arg2)) c) := by
  unfold res_main_v127
  pointwise []
  refine congrArg₂ (fun a b : EReal => a - b) rfl (div_congr (Finset.sum_congr rfl fun c _ => ?_))
  beta_reduce
  have mul_congr : ∀ x y z : EReal, y = z → x * y = x * z := fun x y z h => by rw [h]
  refine mul_congr _ _ _ ?_
  refine target_congr _ _ _ _ ?_
  rw [take_row _ _ r c b]
  · exact (stack4 (fun b => maxRow (BitVec.ofNat 32 b.val) (V0 (Proc.devRef .tc main_arg3)) (V0 (Proc.devRef .tc main_arg2))) b c).trans (maxRow_at _ _ _ c)
  · pointwise []
    have h' : V0 (Proc.devRef .tc main_arg3) (ix1 r) = BitVec.ofNat 32 b.val := hb
    rw [h']
    exact wrap_row b.val _ (by omega)

end Cert.Proof

end
-- ==== Proof.Distances.lean ====
/- The distances within a cloud whose points' 17 smallest distances strictly increase: the coordinates are real, and the
   kernel's form of a distance is the reference's. -/
module

public import proofs.«01_k».proof.Proof.RefRead

@[expose] public section

noncomputable section

namespace Cert.Proof

/-- A point with an infinite coordinate has the sum of squares `⊤`. -/
theorem sum_sq_top (a : Fin 3 → EReal) (h : ∃ x, a x = ⊤ ∨ a x = ⊥) : ∑ x, a x * a x = ⊤ := by
  obtain ⟨x, hx⟩ := h
  have ht : a x * a x = ⊤ := by
    rcases hx with hx | hx <;> rw [hx]
    · exact EReal.top_mul_top
    · exact EReal.bot_mul_bot
  refine top_le_iff.mp (ht.symm.le.trans ?_)
  exact Finset.single_le_sum (f := fun x => a x * a x) (fun i _ => Core.sq_nonneg' (a i)) (Finset.mem_univ x)

/-- The distances from a point with an infinite coordinate are infinite. -/
theorem rdist_infinite (X : Fin 8192 → Fin 3 → EReal) (i : Fin 8192) (h : ∃ x, X i x = ⊤ ∨ X i x = ⊥) (j : Fin 8192) :
    rdist X i j = ⊤ ∨ rdist X i j = ⊥ := by
  have hn : 0 ≤ ∑ x, X j x * X j x := Finset.sum_nonneg fun x _ => Core.sq_nonneg' _
  have hb : ∑ x, X j x * X j x ≠ ⊥ := fun e => absurd hn (by rw [e]; simp)
  unfold rdist
  rw [sum_sq_top _ h, EReal.top_add_of_ne_bot hb]
  generalize ((2 : ℝ) : EReal) * ∑ x, X i x * X j x = y
  induction y using EReal.rec with
  | bot => left; rfl
  | top => right; rfl
  | coe r => left; rfl

/-- A number strictly between two others is not infinite. -/
theorem no_middle {a b c : EReal} (h1 : a < b) (h2 : b < c) (h : b = ⊤ ∨ b = ⊥) : False := by
  rcases h with rfl | rfl
  · exact not_top_lt h2
  · exact not_lt_bot h1

/-- Where each point's nearest are strictly ordered, every coordinate is real. -/
theorem real_coords (X : Fin 8192 → Fin 3 → EReal)
    (h : ∀ i (k : Fin 16), -rdist X i (near X i k.succ) < -rdist X i (near X i k.castSucc)) :
    ∃ Y : Fin 8192 → Fin 3 → ℝ, X = fun i x => (Y i x : EReal) := by
  have key : ∀ i x, ∃ r : ℝ, X i x = (r : EReal) := by
    intro i x
    by_contra hc
    have hinf : X i x = ⊤ ∨ X i x = ⊥ := by
      generalize X i x = y at hc
      induction y using EReal.rec with
      | bot => right; rfl
      | top => left; rfl
      | coe r => exact absurd ⟨r, rfl⟩ hc
    exact no_middle (EReal.neg_lt_neg_iff.mp (h i 0)) (EReal.neg_lt_neg_iff.mp (h i 1)) (rdist_infinite X i ⟨x, hinf⟩ _)
  choose Y hY using key
  exact ⟨Y, funext fun i => funext fun x => hY i x⟩

/-- Then the nearest of a point are named by `near`. -/
theorem near_nearest (X : Fin 8192 → Fin 3 → EReal)
    (h : ∀ i (k : Fin 16), -rdist X i (near X i k.succ) < -rdist X i (near X i k.castSucc)) (i : Fin 8192) :
    Core.Nearest (fun j => rdist X i j) (near X i) := by
  refine nearest_of_order (fun j => ?_) (h i)
  obtain ⟨Y, rfl⟩ := real_coords X h
  have e : rdist (fun i x => (Y i x : EReal)) i j = (((∑ x, Y i x * Y i x + ∑ x, Y j x * Y j x) - 2 * ∑ x, Y i x * Y j x : ℝ) : EReal) := by
    simp only [rdist, Fin.sum_univ_three]
    norm_cast
  rw [e]
  exact EReal.coe_lt_top _

/-- And a distance with `-2` inside the product is that distance. -/
theorem dist_eq (X : Fin 8192 → Fin 3 → EReal)
    (h : ∀ i (k : Fin 16), -rdist X i (near X i k.succ) < -rdist X i (near X i k.castSucc)) (i j : Fin 8192) :
    ((∑ x, X i x * ((-2 : ℝ) : EReal) * X j x) + ∑ x, X i x * X i x) + ∑ x, X j x * X j x = rdist X i j := by
  obtain ⟨Y, rfl⟩ := real_coords X h
  simp only [rdist, Fin.sum_univ_three]
  simp only [← EReal.coe_mul, ← EReal.coe_add, ← EReal.coe_sub]
  exact congrArg _ (by ring)

end Cert.Proof

end
-- ==== Proof.Loss.lean ====
/- The loss as one formula, and how it splits over the kernel's 256 blocks of 128 rows. -/
module

public import proofs.«01_k».proof.Proof.RefTarget
public import proofs.«01_k».proof.Proof.Distances
public import Idealize.ShloMosaic.Lib.Pipeline.ValueKit

@[expose] public section

set_option maxRecDepth 16384

noncomputable section

namespace Cert.Proof

open Cert.ReferenceIdeal
open Idealize.ShloMosaic

variable (s : FVec Ideal S32768 .f32) (a : FVec Ideal S32768x3 .f32) (f : FVec Ideal S32768x256 .f32) (ids : IVec S32768 32)

/-- The largest value of a feature in a cloud. -/
def cloudMax (b : Fin 4) (c : Fin 256) : EReal := Finset.univ.fold max ⊥ fun x : Fin 8192 => f (ix2 (row b x) c)

/-- A point's squared score differences to its sixteen nearest, summed. -/
def localSq (b : Fin 4) (i : Fin 8192) : EReal :=
  ∑ k : Fin 16, (s (ix1 (row b i)) - s (ix1 (row b (near (cloud a b) i k.castSucc))))
    * (s (ix1 (row b i)) - s (ix1 (row b (near (cloud a b) i k.castSucc))))

/-- A point's squared difference of score and target. -/
def globalSq (b : Fin 4) (i : Fin 8192) : EReal :=
  (s (ix1 (row b i)) - targetRow (fun c => f (ix2 (row b i) c)) (cloudMax f b))
    * (s (ix1 (row b i)) - targetRow (fun c => f (ix2 (row b i) c)) (cloudMax f b))

/-- The loss. -/
def loss : EReal :=
  Ideal.div (∑ b : Fin 4, ∑ i : Fin 8192, localSq s a b i) ((524288 : ℝ) : EReal)
    + Ideal.div (∑ b : Fin 4, ∑ i : Fin 8192, globalSq s f b i) ((32768 : ℝ) : EReal)

/-! Both are nonnegative. -/
theorem localSq_nonneg (b : Fin 4) (i : Fin 8192) : 0 ≤ localSq s a b i := Finset.sum_nonneg fun _ _ => Core.sq_nonneg' _
theorem globalSq_nonneg (b : Fin 4) (i : Fin 8192) : 0 ≤ globalSq s f b i := Core.sq_nonneg' _

/-- A sum of quotients of nonnegative numbers is the quotient of the sum. -/
theorem sum_div {ι : Type} (u : Finset ι) (g : ι → EReal) (n : ℝ) (hn : n ≠ 0) (h : ∀ i, 0 ≤ g i) :
    ∑ i ∈ u, Ideal.div (g i) (n : EReal) = Ideal.div (∑ i ∈ u, g i) (n : EReal) := by
  rw [Ideal.div_coe hn, Core.sum_mul_of_nonneg u g _ h]
  exact Finset.sum_congr rfl fun i _ => Ideal.div_coe hn _

/-- Block `t`'s row `r` within its cloud. -/
abbrev blkIn (t : Fin 256) (r : Fin 128) : Fin 8192 := ⟨t.val % 64 * 128 + r.val, by omega⟩
/-- Block `t`'s cloud. -/
abbrev blkOf (t : Fin 256) : Fin 4 := ⟨t.val / 64, by omega⟩

/-- Summing over the blocks' rows sums over the clouds' points. -/
theorem sum_blocks (g : Fin 4 → Fin 8192 → EReal) :
    ∑ t : Fin 256, ∑ r : Fin 128, g (blkOf t) (blkIn t r) = ∑ b : Fin 4, ∑ i : Fin 8192, g b i :=
  Fin.sum_points_lanes_congr 64 fun _ _ _ _ => rfl

/-- The blocks' contributions add up to the loss. -/
theorem loss_blocks (p : Fin 256 → EReal)
    (hp : ∀ t, p t = Ideal.div (∑ r : Fin 128, localSq s a (blkOf t) (blkIn t r)) ((524288 : ℝ) : EReal)
      + Ideal.div (∑ r : Fin 128, globalSq s f (blkOf t) (blkIn t r)) ((32768 : ℝ) : EReal)) :
    ∑ t, p t = loss s a f := by
  rw [Finset.sum_congr rfl fun t _ => hp t, Finset.sum_add_distrib,
    sum_div _ _ _ (by norm_num) (fun t => Finset.sum_nonneg fun r _ => localSq_nonneg s a _ _),
    sum_div _ _ _ (by norm_num) (fun t => Finset.sum_nonneg fun r _ => globalSq_nonneg s f _ _),
    sum_blocks (localSq s a), sum_blocks (globalSq s f)]
  rfl

/-- Different clouds have different numbers. -/
theorem ids_ne : ∀ b' b : Fin 4, ¬b' = b → IntOp.cmpi .eq (BitVec.ofNat 32 b'.val) (BitVec.ofNat 32 b.val) = 0#1 := by decide

/-- The largest value over the points numbered `b` is the largest in cloud `b`, where the numbers are the clouds'. -/
theorem maxOver_eq (hids : ∀ (b : Fin 4) (i : Fin 8192), ids (ix1 (row b i)) = BitVec.ofNat 32 b.val) (b : Fin 4) (c : Fin 256) :
    maxOver (BitVec.ofNat 32 b.val) ids f c = cloudMax f b c := by
  unfold maxOver cloudMax
  refine le_antisymm ?_ ?_
  · refine Finset.fold_max_le _ |>.mpr ⟨bot_le, fun x _ => ?_⟩
    obtain ⟨b', i, rfl⟩ : ∃ (b' : Fin 4) (i : Fin 8192), x = row b' i :=
      ⟨⟨x.val / 8192, by omega⟩, ⟨x.val % 8192, by omega⟩, Fin.ext (by simp only; omega)⟩
    rw [hids b' i]
    by_cases hb : b' = b
    · subst hb
      rw [show IntOp.cmpi .eq (BitVec.ofNat 32 b'.val) (BitVec.ofNat 32 b'.val) = 1#1 by simp [IntOp.cmpi]]
      exact (Finset.le_fold_max _).mpr (Or.inr ⟨i, Finset.mem_univ _, le_refl _⟩)
    · have hne : IntOp.cmpi .eq (BitVec.ofNat 32 b'.val) (BitVec.ofNat 32 b.val) = 0#1 := by
        exact ids_ne b' b hb
      rw [hne]
      exact bot_le
  · refine Finset.fold_max_le _ |>.mpr ⟨bot_le, fun i _ => ?_⟩
    refine (Finset.le_fold_max _).mpr (Or.inr ⟨row b i, Finset.mem_univ _, ?_⟩)
    rw [hids b i, show IntOp.cmpi .eq (BitVec.ofNat 32 b.val) (BitVec.ofNat 32 b.val) = 1#1 by simp [IntOp.cmpi]]
    exact le_refl _

end Cert.Proof

end
-- ==== Proof.KernelLoss.lean ====
/- The kernel's result is the loss, where each point's nearest are strictly ordered and the scores are real. -/
module

public import proofs.«01_k».proof.Proof.KernelResult
public import proofs.«01_k».proof.Proof.Loss

@[expose] public section

set_option maxRecDepth 16384

noncomputable section

namespace Cert.Proof

open Cert.KernelIdeal Cert.KernelIdeal.Gen
open Idealize.ShloMosaic Idealize.ShloMosaic.TcCoe

variable (m : (ℓ : Loc nD τ sig) → Buf (Elt Ideal) ℓ) (ρ : Dev nD → PrngReg)

/-- The scores, the coordinates and the features. -/
abbrev scoresOf (c : Dev nD) : FVec Ideal S32768 .f32 := m ((c : Thread nD τ).loc main_arg0)
abbrev coordsOf (c : Dev nD) : FVec Ideal S32768x3 .f32 := m ((c : Thread nD τ).loc main_arg1)
abbrev featsOf (c : Dev nD) : FVec Ideal S32768x256 .f32 := m ((c : Thread nD τ).loc main_arg2)

/-- A block's row is its cloud's row. -/
theorem blkRow_eq (t : Fin 256) (r : Fin 128) : blkRow t r = row (blkOf t) (blkIn t r) :=
  Fin.ext (show t.val * 128 + r.val = t.val / 64 * 8192 + (t.val % 64 * 128 + r.val) by omega)

/-- A block's queries. -/
theorem q_at (c : Dev nD) (t : Fin 256) (r : Fin 128) (x : Fin 3) :
    (show FVec Ideal S128x3 .f32 from iblk1 (V2 m ρ) c 0 t) (ix2 r x) = cloud (coordsOf m c) (blkOf t) (blkIn t r) x := by
  refine (blk1_0 (V2 m ρ) c t r x).trans ?_
  rw [V2_arg1, blkRow_eq]
  rfl

/-- A block's keys. -/
theorem k_at (c : Dev nD) (t : Fin 256) (x : Fin 3) (j : Fin 8192) :
    (show FVec Ideal S3x8192 .f32 from iblk1 (V2 m ρ) c 1 t) (ix2 x j) = cloud (coordsOf m c) (blkOf t) j x :=
  (blk1_1 (V2 m ρ) c t x j).trans (V2_v1 m ρ c x _)

/-- A block's scores. -/
theorem s_at (c : Dev nD) (t : Fin 256) (r : Fin 128) :
    (show FVec Ideal S128x1 .f32 from iblk1 (V2 m ρ) c 2 t) (ix2 r 0) = scoresOf m c (ix1 (row (blkOf t) (blkIn t r))) := by
  refine (blk1_2 (V2 m ρ) c t r).trans ((V2_v2 m ρ c _).trans ?_)
  rw [blkRow_eq]

/-- One block's contribution. -/
theorem part_loss (c : Dev nD)
    (hn : ∀ (b : Fin 4) (i : Fin 8192) (k : Fin 16), -rdist (cloud (coordsOf m c) b) i (near (cloud (coordsOf m c) b) i k.succ)
      < -rdist (cloud (coordsOf m c) b) i (near (cloud (coordsOf m c) b) i k.castSucc))
    (z : Fin 32768 → ℝ) (hz : ∀ r, scoresOf m c (ix1 r) = (z r : EReal)) (t : Fin 256) :
    part (V2 m ρ) c t = Ideal.div (∑ r : Fin 128, localSq (scoresOf m c) (coordsOf m c) (blkOf t) (blkIn t r)) ((524288 : ℝ) : EReal)
      + Ideal.div (∑ r : Fin 128, globalSq (scoresOf m c) (featsOf m c) (blkOf t) (blkIn t r)) ((32768 : ℝ) : EReal) := by
  have mul_self : ∀ {x y : EReal}, x = y → x * x = y * y := fun h => by rw [h]
  refine congrArg₂ (fun a b : EReal => a + b) ?_ ?_
  · refine (locPart_eq _ _ _ _ (fun j => z (row (blkOf t) j)) (fun r => z (row (blkOf t) (blkIn t r)))
      (fun r => near (cloud (coordsOf m c) (blkOf t)) (blkIn t r)) (fun j => ?_) (fun j => ?_) (fun j => ?_) (fun r => ?_) (fun r => ?_)).trans ?_
    · exact (blk1_3 (V2 m ρ) c t j 0).trans (V2_v12_0 m ρ c _)
    · exact ((blk1_3 (V2 m ρ) c t j 1).trans (V2_v12_1 m ρ c _)).trans (hz _)
    · exact ((blk1_3 (V2 m ρ) c t j 2).trans (V2_v12_2 m ρ c _)).trans (mul_self (hz _))
    · exact (s_at m ρ c t r).trans (hz _)
    · have e : (fun j => kdist (iblk1 (V2 m ρ) c 0 t) (iblk1 (V2 m ρ) c 1 t) (ix2 r j))
          = fun j => rdist (cloud (coordsOf m c) (blkOf t)) (blkIn t r) j := funext fun j => by
        refine (kdist_at _ _ r j).trans ((?_ : _ = _).trans (dist_eq _ (hn (blkOf t)) (blkIn t r) j))
        have hq := q_at m ρ c t r
        have hk := fun x => k_at m ρ c t x j
        refine congrArg₂ (fun a b : EReal => a + b) (congrArg₂ (fun a b : EReal => a + b) ?_ ?_) ?_
        · exact Finset.sum_congr rfl fun x _ => congrArg₂ (fun a b : EReal => a * ((-2 : ℝ) : EReal) * b) (hq x) (hk x)
        · exact Finset.sum_congr rfl fun x _ => mul_self (hq x)
        · exact Finset.sum_congr rfl fun x _ => mul_self (hk x)
      rw [e]
      exact near_nearest _ (hn (blkOf t)) _
    · refine div_congr (Finset.sum_congr rfl fun r _ => Finset.sum_congr rfl fun k _ => mul_self ?_)
      rw [hz, hz]
  · refine (globPart_eq _ _ _).trans (div_congr (Finset.sum_congr rfl fun r _ => mul_self ?_))
    refine congrArg₂ (fun a b : EReal => a - b) (s_at m ρ c t r) ?_
    refine congrArg₂ targetRow (funext fun d => ?_) (funext fun d => ?_)
    · refine (blk1_4 (V2 m ρ) c t r d).trans ?_
      rw [V2_arg2, blkRow_eq]
    · refine (blk1_5 (V2 m ρ) c t d).trans ?_
      rw [V2_v0]
      rfl

/-- The kernel's result. -/
theorem kernel_loss (c : Dev nD)
    (hn : ∀ (b : Fin 4) (i : Fin 8192) (k : Fin 16), -rdist (cloud (coordsOf m c) b) i (near (cloud (coordsOf m c) b) i k.succ)
      < -rdist (cloud (coordsOf m c) b) i (near (cloud (coordsOf m c) b) i k.castSucc))
    (hz : ∀ r : Fin 32768, ∃ z : ℝ, scoresOf m c (ix1 r) = (z : EReal)) :
    W4 m ρ c (Proc.devRef .tc main_v14) = fun _ => loss (scoresOf m c) (coordsOf m c) (featsOf m c) := by
  choose z hz using hz
  refine (W4_v14 m ρ c).trans (funext fun _ => ?_)
  exact loss_blocks _ _ _ (fun t : Fin 256 => part (V2 m ρ) c t) (part_loss m ρ c hn z hz)

end Cert.Proof

end
-- ==== Proof.RefLoss.lean ====
/- The reference's result is the loss. -/
module

public import proofs.«01_k».proof.Proof.Loss

@[expose] public section

set_option maxRecDepth 16384

noncomputable section

namespace Cert.Proof

open Cert.ReferenceIdeal Cert.ReferenceIdeal.Gen Cert.ReferenceIdeal.Value
open Idealize.ShloMosaic

variable (V0 : Valuation τ sig (Elt Ideal))

/-- The last operations at their one cell. -/
theorem tail_at (x : FVec Ideal S32768x16 .f32) (y : FVec Ideal S32768x1 .f32) (j : S_.Idx) :
    addf (Host.divf (Host.reduceAdd (mulf x x) (constant S_ .f32 0x00000000#32) reducesTo_S32768x16_S_d0_1 h_S_) (constant S_ .f32 0x49000000#32))
      (Host.divf (Host.reduceAdd (mulf y y) (constant S_ .f32 0x00000000#32) reducesTo_S32768x1_S_d0_1 h_S_) (constant S_ .f32 0x47000000#32)) j
      = Ideal.div (∑ r : Fin 32768, ∑ k : Fin 16, x (ix2 r k) * x (ix2 r k)) ((524288 : ℝ) : EReal)
        + Ideal.div (∑ r : Fin 32768, y (ix2 r 0) * y (ix2 r 0)) ((32768 : ℝ) : EReal) := by
  pointwise []
  rw [c524288, c32768]
  refine congrArg₂ (fun a b : EReal => a + b) rfl (div_congr (Finset.sum_congr rfl fun r _ => ?_))
  exact Fintype.sum_unique _

/-- The reference's result, where the cloud numbers are the clouds'. -/
theorem ref_loss (hids : ∀ (b : Fin 4) (i : Fin 8192), (show IVec S32768 32 from V0 (Proc.devRef .tc main_arg3)) (ix1 (row b i)) = BitVec.ofNat 32 b.val)
    (j : S_.Idx) :
    addf (Host.divf (Host.reduceAdd (mulf (res_main_v75 V0) (res_main_v75 V0)) (constant S_ .f32 0x00000000#32) reducesTo_S32768x16_S_d0_1 h_S_) (constant S_ .f32 0x49000000#32))
      (Host.divf (Host.reduceAdd (mulf (res_main_v127 V0) (res_main_v127 V0)) (constant S_ .f32 0x00000000#32) reducesTo_S32768x1_S_d0_1 h_S_) (constant S_ .f32 0x47000000#32)) j
      = loss (V0 (Proc.devRef .tc main_arg0)) (V0 (Proc.devRef .tc main_arg1)) (V0 (Proc.devRef .tc main_arg2)) := by
  refine (tail_at _ _ j).trans ?_
  have rows : ∀ g : Fin 32768 → EReal, ∑ r, g r = ∑ b : Fin 4, ∑ i : Fin 8192, g (row b i) := fun g =>
    (Fin.sum_mul_add_fin 4 8192 g).symm
  have mul_self : ∀ {x y : EReal}, x = y → x * x = y * y := fun h => by rw [h]
  rw [rows, rows]
  refine congrArg₂ (fun a b : EReal => a + b) (div_congr ?_) (div_congr ?_)
  · exact Finset.sum_congr rfl fun b _ => Finset.sum_congr rfl fun i _ => Finset.sum_congr rfl fun k _ => mul_self (v75_at V0 b i k)
  · refine Finset.sum_congr rfl fun b _ => Finset.sum_congr rfl fun i _ => mul_self ((v127_at V0 (row b i) b (hids b i)).trans ?_)
    rw [show (fun c => maxOver (BitVec.ofNat 32 b.val) (V0 (Proc.devRef .tc main_arg3)) (V0 (Proc.devRef .tc main_arg2)) c)
      = cloudMax (V0 (Proc.devRef .tc main_arg2)) b from funext fun c => maxOver_eq _ _ hids b c]

end Cert.Proof

end
-- ==== Proof.PreFacts.lean ====
/- The shape facts of the precondition's program. -/
module

public import proofs.«01_k».proof.Defs

@[expose] public section

namespace Cert.Proof

/-- The shape facts the precondition's program states. -/
theorem preFacts : Cert.Pre_generic.Facts := by
  constructor <;> first | decide | (refine ⟨?_, ?_⟩ <;> decide)

end Cert.Proof

end
-- ==== Proof.PreRead.lean ====
/- What the precondition says, read at an index. -/
module

public import proofs.«01_k».proof.Proof.PreFacts
public import proofs.«01_k».proof.Proof.RefRead
public import Idealize.ShloMosaic.Lib.Pointwise

@[expose] public section

set_option maxRecDepth 16384

noncomputable section

namespace Cert.Proof

open Cert.Pre_generic Cert.Pre_generic.Facts
open Idealize.ShloMosaic

variable [Cert.Pre_generic.Facts]

/-- The negated distances within a cloud. -/
def negDist (x : FVec Ideal S8192x3 .f32) : FVec Ideal S8192x8192 .f32 :=
  Host.negf (subf (addf
      (broadcastInDim S8192x8192 ![0, 1] bcast_S8192x1_S8192x8192_0_1 (broadcastInDim S8192x1 ![0] bcast_S8192_S8192x1_0
        (Host.reduceAdd (mulf x x) (constant S_ .f32 0x00000000#32) reducesTo_S8192x3_S8192_d1 h_S_)))
      (broadcastInDim S8192x8192 ![0, 1] bcast_S1x8192_S8192x8192_0_1 (broadcastInDim S1x8192 ![1] bcast_S8192_S1x8192_1
        (Host.reduceAdd (mulf x x) (constant S_ .f32 0x00000000#32) reducesTo_S8192x3_S8192_d1 h_S_))))
    (mulf (broadcastInDim S8192x8192 ![] bcast_S_S8192x8192 (constant S_ .f32 0x40000000#32))
      (Host.dotGeneral dot_S8192x3_S3x8192_S8192x8192_1_0_0_1_n_n none x (transpose S3x8192 [1, 0] x transposes_S8192x3_S3x8192_1_0))))

/-- Whether the 17 largest entries of each row of `y` are strictly ordered. -/
def inOrder (y : FVec Ideal S8192x8192 .f32) : IVec S8192x16 1 :=
  cmpf .ogt
    (extractStridedSlice S8192x16 ![0, 0] (Host.topK S8192x17 1 (FloatOps.cmpfTotal .gt) y sliceFits_S8192x8192_S8192x17).1 slices_S8192x17_S8192x16_0_0)
    (extractStridedSlice S8192x16 ![0, 1] (Host.topK S8192x17 1 (FloatOps.cmpfTotal .gt) y sliceFits_S8192x8192_S8192x17).1 slices_S8192x17_S8192x16_0_1)

/-- A truth value that is one is true. -/
theorem ofBool_eq_one {b : Bool} (h : BitVec.ofBool b = 1#1) : b = true := by
  cases b
  · exact absurd h (by decide)
  · rfl

/-- A negated distance at an index. -/
theorem negDist_at (x : FVec Ideal S8192x3 .f32) (i j : Fin 8192) :
    negDist x (ix2 i j) = -rdist (fun a c => x (ix2 a c)) i j := by
  pointwise [negDist]
  rw [c2]
  rfl

/-- A passed check at an index: that entry of the row's order is strictly larger than the next. -/
theorem inOrder_at (y : FVec Ideal S8192x8192 .f32) (i : Fin 8192) (k : Fin 16) (h : inOrder y (ix2 i k) = 1#1) :
    y (ix2 i (order (fun j => y (ix2 i j)) ⟨k.val + 1, by omega⟩)) < y (ix2 i (order (fun j => y (ix2 i j)) ⟨k.val, by omega⟩)) := by
  revert h
  pointwise [inOrder]
  rw [topK17_val, topK17_val]
  have e : (⟨1 + k.val, by omega⟩ : Fin 8192) = ⟨k.val + 1, by omega⟩ := Fin.ext (Nat.add_comm _ _)
  intro h
  have hlt := of_decide_eq_true (ofBool_eq_one h)
  exact lt_of_eq_of_lt (congrArg (fun p => y (ix2 i (order (fun j => y (ix2 i j)) p))) e.symm) hlt

variable (a0 : FVec Ideal S32768 .f32) (a1 : FVec Ideal S32768x3 .f32) (a2 : FVec Ideal S32768x256 .f32) (a3 : IVec S32768 32) (a4 : IVec S4 32)

/-! The precondition's results: each cloud's order check and its numbers' check, then the scores'. -/
theorem fn_0 : (fn a0 a1 a2 a3 a4).1 = inOrder (negDist (extractStridedSlice S8192x3 ![0, 0] a1 slices_S32768x3_S8192x3_0_0)) := rfl
theorem fn_2 : (fn a0 a1 a2 a3 a4).2.2.1 = inOrder (negDist (extractStridedSlice S8192x3 ![8192, 0] a1 slices_S32768x3_S8192x3_8192_0)) := rfl
theorem fn_4 : (fn a0 a1 a2 a3 a4).2.2.2.2.1 = inOrder (negDist (extractStridedSlice S8192x3 ![16384, 0] a1 slices_S32768x3_S8192x3_16384_0)) := rfl
theorem fn_6 : (fn a0 a1 a2 a3 a4).2.2.2.2.2.2.1 = inOrder (negDist (extractStridedSlice S8192x3 ![24576, 0] a1 slices_S32768x3_S8192x3_24576_0)) := rfl
theorem fn_1 : (fn a0 a1 a2 a3 a4).2.1 = cmpi .eq (extractStridedSlice S8192 ![0] a3 slices_S32768_S8192_0) (broadcastInDim S8192 ![] bcast_S_S8192 (constantI S_ 32 0#32)) := rfl
theorem fn_3 : (fn a0 a1 a2 a3 a4).2.2.2.1 = cmpi .eq (extractStridedSlice S8192 ![8192] a3 slices_S32768_S8192_8192) (broadcastInDim S8192 ![] bcast_S_S8192 (constantI S_ 32 1#32)) := rfl
theorem fn_5 : (fn a0 a1 a2 a3 a4).2.2.2.2.2.1 = cmpi .eq (extractStridedSlice S8192 ![16384] a3 slices_S32768_S8192_16384) (broadcastInDim S8192 ![] bcast_S_S8192 (constantI S_ 32 2#32)) := rfl
theorem fn_7 : (fn a0 a1 a2 a3 a4).2.2.2.2.2.2.2.1 = cmpi .eq (extractStridedSlice S8192 ![24576] a3 slices_S32768_S8192_24576) (broadcastInDim S8192 ![] bcast_S_S8192 (constantI S_ 32 3#32)) := rfl
theorem fn_8 : (fn a0 a1 a2 a3 a4).2.2.2.2.2.2.2.2 = cmpf .olt (Host.absf a0) (broadcastInDim S32768 ![] bcast_S_S32768 (constant (F := Ideal) S_ .f32 0x7F800000#32)) := rfl

/-- The order check of a cloud, read: its points' distances strictly increase along `near`. -/
theorem near_strict (x : FVec Ideal S8192x3 .f32) (X : Fin 8192 → Fin 3 → EReal) (hx : ∀ i j, x (ix2 i j) = X i j)
    (h : inOrder (negDist x) = fun _ => 1#1) (i : Fin 8192) (k : Fin 16) :
    -rdist X i (near X i k.succ) < -rdist X i (near X i k.castSucc) := by
  obtain rfl : X = fun i j => x (ix2 i j) := funext fun i => funext fun j => (hx i j).symm
  have e : (fun j => negDist x (ix2 i j)) = fun j => -rdist (fun a c => x (ix2 a c)) i j := funext fun j => negDist_at x i j
  have := inOrder_at (negDist x) i k (congrFun h _)
  rw [e, negDist_at, negDist_at] at this
  exact this

/-- What the precondition says of the arguments. -/
structure Generic : Prop where
  near : ∀ (b : Fin 4) (i : Fin 8192) (k : Fin 16), -rdist (cloud a1 b) i (near (cloud a1 b) i k.succ) < -rdist (cloud a1 b) i (near (cloud a1 b) i k.castSucc)
  ids : ∀ (b : Fin 4) (i : Fin 8192), a3 (ix1 (row b i)) = BitVec.ofNat 32 b.val
  fin : ∀ r : Fin 32768, ∃ z : ℝ, a0 (ix1 r) = (z : EReal)

/-- Integers that compare equal are equal. -/
theorem cmpi_eq_one {a b : BitVec 32} (h : IntOp.cmpi .eq a b = 1#1) : a = b := by
  exact eq_of_beq (ofBool_eq_one h)

/-- A number whose absolute value is below `⊤` is real. -/
theorem real_of_abs {z : EReal} (h : max z (-z) < ⊤) : ∃ r : ℝ, z = (r : EReal) := by
  induction z using EReal.rec with
  | bot => exact absurd h (by simp)
  | top => exact absurd h (by simp)
  | coe r => exact ⟨r, rfl⟩

/-- The precondition's results, all ones, say so. -/
theorem generic_of
    (h0 : (fn a0 a1 a2 a3 a4).1 = fun _ => 1#1) (h1 : (fn a0 a1 a2 a3 a4).2.1 = fun _ => 1#1)
    (h2 : (fn a0 a1 a2 a3 a4).2.2.1 = fun _ => 1#1) (h3 : (fn a0 a1 a2 a3 a4).2.2.2.1 = fun _ => 1#1)
    (h4 : (fn a0 a1 a2 a3 a4).2.2.2.2.1 = fun _ => 1#1) (h5 : (fn a0 a1 a2 a3 a4).2.2.2.2.2.1 = fun _ => 1#1)
    (h6 : (fn a0 a1 a2 a3 a4).2.2.2.2.2.2.1 = fun _ => 1#1) (h7 : (fn a0 a1 a2 a3 a4).2.2.2.2.2.2.2.1 = fun _ => 1#1)
    (h8 : (fn a0 a1 a2 a3 a4).2.2.2.2.2.2.2.2 = fun _ => 1#1) : Generic a0 a1 a3 where
  near b i k := by
    obtain rfl | rfl | rfl | rfl : b = 0 ∨ b = 1 ∨ b = 2 ∨ b = 3 := by omega
    · refine near_strict _ _ (fun i j => ?_) ((fn_0 a0 a1 a2 a3 a4).symm.trans h0) i k
      pointwise []
      exact congrArg (fun r : Fin 32768 => a1 (ix2 r j)) (Fin.ext (by simp))
    · refine near_strict _ _ (fun i j => ?_) ((fn_2 a0 a1 a2 a3 a4).symm.trans h2) i k
      pointwise []
      exact congrArg (fun r : Fin 32768 => a1 (ix2 r j)) (Fin.ext (by simp))
    · refine near_strict _ _ (fun i j => ?_) ((fn_4 a0 a1 a2 a3 a4).symm.trans h4) i k
      pointwise []
      exact congrArg (fun r : Fin 32768 => a1 (ix2 r j)) (Fin.ext (by simp))
    · refine near_strict _ _ (fun i j => ?_) ((fn_6 a0 a1 a2 a3 a4).symm.trans h6) i k
      pointwise []
      exact congrArg (fun r : Fin 32768 => a1 (ix2 r j)) (Fin.ext (by simp))
  ids b i := by
    obtain rfl | rfl | rfl | rfl : b = 0 ∨ b = 1 ∨ b = 2 ∨ b = 3 := by omega
    · have h := congrFun ((fn_1 a0 a1 a2 a3 a4).symm.trans h1) (ix1 i)
      revert h
      pointwise []
      intro h
      exact (congrArg (fun r : Fin 32768 => a3 (ix1 r)) (Fin.ext (by simp))).trans (cmpi_eq_one h)
    · have h := congrFun ((fn_3 a0 a1 a2 a3 a4).symm.trans h3) (ix1 i)
      revert h
      pointwise []
      intro h
      exact (congrArg (fun r : Fin 32768 => a3 (ix1 r)) (Fin.ext (by simp))).trans (cmpi_eq_one h)
    · have h := congrFun ((fn_5 a0 a1 a2 a3 a4).symm.trans h5) (ix1 i)
      revert h
      pointwise []
      intro h
      exact (congrArg (fun r : Fin 32768 => a3 (ix1 r)) (Fin.ext (by simp))).trans (cmpi_eq_one h)
    · have h := congrFun ((fn_7 a0 a1 a2 a3 a4).symm.trans h7) (ix1 i)
      revert h
      pointwise []
      intro h
      exact (congrArg (fun r : Fin 32768 => a3 (ix1 r)) (Fin.ext (by simp))).trans (cmpi_eq_one h)
  fin r := by
    have h := congrFun ((fn_8 a0 a1 a2 a3 a4).symm.trans h8) (ix1 r)
    revert h
    pointwise []
    rw [cinf32]
    intro h
    exact real_of_abs (of_decide_eq_true (ofBool_eq_one h))

end Cert.Proof

end
-- ==== Proof.lean ====
/- The certificate: every claim of `Cert.Claim`, from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Frames
public import proofs.«01_k».proof.Proof.KernelRun
public import proofs.«01_k».proof.Proof.KernelLoss
public import proofs.«01_k».proof.Proof.RefLoss
public import proofs.«01_k».proof.Proof.PreRead

@[expose] public section

noncomputable section

namespace Cert.Proof

open Idealize.ShloMosaic Idealize.SL.Sem Cert.Kernel

/-- On inputs the precondition admits, kernel and reference end with the same loss. -/
theorem algebraic : Cert.algebraic_KernelIdeal_ReferenceIdeal_pre_generic (hKernelIdeal := Cert.KernelIdeal.Gen.facts)
    (hReferenceIdeal := Cert.ReferenceIdeal.Gen.facts) (hPre_generic := preFacts) := by
  intro m g m' g' hpre hargs
  letI := preFacts
  have hg := fun c => (hpre c)
  have gen := fun c => generic_of _ _ _ _ _ (hg c).1 (hg c).2.1 (hg c).2.2.1 (hg c).2.2.2.1 (hg c).2.2.2.2.1 (hg c).2.2.2.2.2.1
    (hg c).2.2.2.2.2.2.1 (hg c).2.2.2.2.2.2.2.1 (hg c).2.2.2.2.2.2.2.2
  refine ⟨fun c _ => loss (scoresOf m c) (coordsOf m c) (featsOf m c), ?_, ?_⟩
  · exact (θ_run Cert.KernelIdeal.defs _ _).mono
      (fun r h c => ⟨(h c).1.trans (kernel_loss m g c (gen c).near (gen c).fin), (h c).2⟩)
      (kernel_run (F := Ideal) m g)
  · refine (θ_run Cert.ReferenceIdeal.defs _ _).mono
      (fun r h c => ⟨(h c).1.trans (funext fun j => ?_), (h c).2⟩)
      (Cert.ReferenceIdeal.Value.run (F := Ideal) m' g')
    have e0 : StableHlo.launchContents m' c (Proc.devRef .tc Cert.ReferenceIdeal.main_arg0) = scoresOf m c := (hargs c).1
    have e1 : StableHlo.launchContents m' c (Proc.devRef .tc Cert.ReferenceIdeal.main_arg1) = coordsOf m c := (hargs c).2.1
    have e2 : StableHlo.launchContents m' c (Proc.devRef .tc Cert.ReferenceIdeal.main_arg2) = featsOf m c := (hargs c).2.2.1
    refine (ref_loss (StableHlo.launchContents m' c) (fun b i => ?_) j).trans ?_
    · exact (congrFun (hargs c).2.2.2.1 _).trans ((gen c).ids b i)
    · rw [e0, e1, e2]

/-- Every claim of the certificate. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
